-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4)
      ∧ r.2.mem ((c.tc : Thread Cert.Kernel11.nD Cert.Kernel11.τ).loc Cert.Kernel11.main_arg5) = m ((c.tc : Thread Cert.Kernel11.nD Cert.Kernel11.τ).loc Cert.Kernel11.main_arg5))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
      ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4)
      ∧ r.2.mem ((c.tc : Thread Cert.Reference11Ideal.nD Cert.Reference11Ideal.τ).loc Cert.Reference11Ideal.main_arg5) = m ((c.tc : Thread Cert.Reference11Ideal.nD Cert.Reference11Ideal.τ).loc Cert.Reference11Ideal.main_arg5))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1)
      ∧ r.2.mem ((c.tc : Thread Cert.Kernel12.nD Cert.Kernel12.τ).loc Cert.Kernel12.main_arg2) = m ((c.tc : Thread Cert.Kernel12.nD Cert.Kernel12.τ).loc Cert.Kernel12.main_arg2)
      ∧ r.2.mem ((c.tc : Thread Cert.Kernel12.nD Cert.Kernel12.τ).loc Cert.Kernel12.main_arg3) = m ((c.tc : Thread Cert.Kernel12.nD Cert.Kernel12.τ).loc Cert.Kernel12.main_arg3)
      ∧ r.2.mem ((c.tc : Thread Cert.Kernel12.nD Cert.Kernel12.τ).loc Cert.Kernel12.main_arg4) = m ((c.tc : Thread Cert.Kernel12.nD Cert.Kernel12.τ).loc Cert.Kernel12.main_arg4)
      ∧ r.2.mem ((c.tc : Thread Cert.Kernel12.nD Cert.Kernel12.τ).loc Cert.Kernel12.main_arg5) = m ((c.tc : Thread Cert.Kernel12.nD Cert.Kernel12.τ).loc Cert.Kernel12.main_arg5)
      ∧ r.2.mem ((c.tc : Thread Cert.Kernel12.nD Cert.Kernel12.τ).loc Cert.Kernel12.main_arg6) = m ((c.tc : Thread Cert.Kernel12.nD Cert.Kernel12.τ).loc Cert.Kernel12.main_arg6)
      ∧ r.2.mem ((c.tc : Thread Cert.Kernel12.nD Cert.Kernel12.τ).loc Cert.Kernel12.main_arg7) = m ((c.tc : Thread Cert.Kernel12.nD Cert.Kernel12.τ).loc Cert.Kernel12.main_arg7)
      ∧ r.2.mem ((c.tc : Thread Cert.Kernel12.nD Cert.Kernel12.τ).loc Cert.Kernel12.main_arg8) = m ((c.tc : Thread Cert.Kernel12.nD Cert.Kernel12.τ).loc Cert.Kernel12.main_arg8)
      ∧ r.2.mem ((c.tc : Thread Cert.Kernel12.nD Cert.Kernel12.τ).loc Cert.Kernel12.main_arg9) = m ((c.tc : Thread Cert.Kernel12.nD Cert.Kernel12.τ).loc Cert.Kernel12.main_arg9)
      ∧ r.2.mem ((c.tc : Thread Cert.Kernel12.nD Cert.Kernel12.τ).loc Cert.Kernel12.main_arg10) = m ((c.tc : Thread Cert.Kernel12.nD Cert.Kernel12.τ).loc Cert.Kernel12.main_arg10)
      ∧ r.2.mem ((c.tc : Thread Cert.Kernel12.nD Cert.Kernel12.τ).loc Cert.Kernel12.main_arg11) = m ((c.tc : Thread Cert.Kernel12.nD Cert.Kernel12.τ).loc Cert.Kernel12.main_arg11)
      ∧ r.2.mem ((c.tc : Thread Cert.Kernel12.nD Cert.Kernel12.τ).loc Cert.Kernel12.main_arg12) = m ((c.tc : Thread Cert.Kernel12.nD Cert.Kernel12.τ).loc Cert.Kernel12.main_arg12)
      ∧ r.2.mem ((c.tc : Thread Cert.Kernel12.nD Cert.Kernel12.τ).loc Cert.Kernel12.main_arg13) = m ((c.tc : Thread Cert.Kernel12.nD Cert.Kernel12.τ).loc Cert.Kernel12.main_arg13)
      ∧ r.2.mem ((c.tc : Thread Cert.Kernel12.nD Cert.Kernel12.τ).loc Cert.Kernel12.main_arg14) = m ((c.tc : Thread Cert.Kernel12.nD Cert.Kernel12.τ).loc Cert.Kernel12.main_arg14)
      ∧ r.2.mem ((c.tc : Thread Cert.Kernel12.nD Cert.Kernel12.τ).loc Cert.Kernel12.main_arg15) = m ((c.tc : Thread Cert.Kernel12.nD Cert.Kernel12.τ).loc Cert.Kernel12.main_arg15)
      ∧ r.2.mem ((c.tc : Thread Cert.Kernel12.nD Cert.Kernel12.τ).loc Cert.Kernel12.main_arg16) = m ((c.tc : Thread Cert.Kernel12.nD Cert.Kernel12.τ).loc Cert.Kernel12.main_arg16)
      ∧ r.2.mem ((c.tc : Thread Cert.Kernel12.nD Cert.Kernel12.τ).loc Cert.Kernel12.main_arg17) = m ((c.tc : Thread Cert.Kernel12.nD Cert.Kernel12.τ).loc Cert.Kernel12.main_arg17)
      ∧ r.2.mem ((c.tc : Thread Cert.Kernel12.nD Cert.Kernel12.τ).loc Cert.Kernel12.main_arg18) = m ((c.tc : Thread Cert.Kernel12.nD Cert.Kernel12.τ).loc Cert.Kernel12.main_arg18)
      ∧ r.2.mem ((c.tc : Thread Cert.Kernel12.nD Cert.Kernel12.τ).loc Cert.Kernel12.main_arg19) = m ((c.tc : Thread Cert.Kernel12.nD Cert.Kernel12.τ).loc Cert.Kernel12.main_arg19))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
      ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
      ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
      ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
      ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
      ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
      ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
      ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
      ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
      ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
      ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
      ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
      ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
      ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
      ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
      ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
      ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
      ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
      ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1)
      ∧ r.2.mem ((c.tc : Thread Cert.Reference12Ideal.nD Cert.Reference12Ideal.τ).loc Cert.Reference12Ideal.main_arg2) = m ((c.tc : Thread Cert.Reference12Ideal.nD Cert.Reference12Ideal.τ).loc Cert.Reference12Ideal.main_arg2)
      ∧ r.2.mem ((c.tc : Thread Cert.Reference12Ideal.nD Cert.Reference12Ideal.τ).loc Cert.Reference12Ideal.main_arg3) = m ((c.tc : Thread Cert.Reference12Ideal.nD Cert.Reference12Ideal.τ).loc Cert.Reference12Ideal.main_arg3)
      ∧ r.2.mem ((c.tc : Thread Cert.Reference12Ideal.nD Cert.Reference12Ideal.τ).loc Cert.Reference12Ideal.main_arg4) = m ((c.tc : Thread Cert.Reference12Ideal.nD Cert.Reference12Ideal.τ).loc Cert.Reference12Ideal.main_arg4)
      ∧ r.2.mem ((c.tc : Thread Cert.Reference12Ideal.nD Cert.Reference12Ideal.τ).loc Cert.Reference12Ideal.main_arg5) = m ((c.tc : Thread Cert.Reference12Ideal.nD Cert.Reference12Ideal.τ).loc Cert.Reference12Ideal.main_arg5)
      ∧ r.2.mem ((c.tc : Thread Cert.Reference12Ideal.nD Cert.Reference12Ideal.τ).loc Cert.Reference12Ideal.main_arg6) = m ((c.tc : Thread Cert.Reference12Ideal.nD Cert.Reference12Ideal.τ).loc Cert.Reference12Ideal.main_arg6)
      ∧ r.2.mem ((c.tc : Thread Cert.Reference12Ideal.nD Cert.Reference12Ideal.τ).loc Cert.Reference12Ideal.main_arg7) = m ((c.tc : Thread Cert.Reference12Ideal.nD Cert.Reference12Ideal.τ).loc Cert.Reference12Ideal.main_arg7)
      ∧ r.2.mem ((c.tc : Thread Cert.Reference12Ideal.nD Cert.Reference12Ideal.τ).loc Cert.Reference12Ideal.main_arg8) = m ((c.tc : Thread Cert.Reference12Ideal.nD Cert.Reference12Ideal.τ).loc Cert.Reference12Ideal.main_arg8)
      ∧ r.2.mem ((c.tc : Thread Cert.Reference12Ideal.nD Cert.Reference12Ideal.τ).loc Cert.Reference12Ideal.main_arg9) = m ((c.tc : Thread Cert.Reference12Ideal.nD Cert.Reference12Ideal.τ).loc Cert.Reference12Ideal.main_arg9)
      ∧ r.2.mem ((c.tc : Thread Cert.Reference12Ideal.nD Cert.Reference12Ideal.τ).loc Cert.Reference12Ideal.main_arg10) = m ((c.tc : Thread Cert.Reference12Ideal.nD Cert.Reference12Ideal.τ).loc Cert.Reference12Ideal.main_arg10)
      ∧ r.2.mem ((c.tc : Thread Cert.Reference12Ideal.nD Cert.Reference12Ideal.τ).loc Cert.Reference12Ideal.main_arg11) = m ((c.tc : Thread Cert.Reference12Ideal.nD Cert.Reference12Ideal.τ).loc Cert.Reference12Ideal.main_arg11)
      ∧ r.2.mem ((c.tc : Thread Cert.Reference12Ideal.nD Cert.Reference12Ideal.τ).loc Cert.Reference12Ideal.main_arg12) = m ((c.tc : Thread Cert.Reference12Ideal.nD Cert.Reference12Ideal.τ).loc Cert.Reference12Ideal.main_arg12)
      ∧ r.2.mem ((c.tc : Thread Cert.Reference12Ideal.nD Cert.Reference12Ideal.τ).loc Cert.Reference12Ideal.main_arg13) = m ((c.tc : Thread Cert.Reference12Ideal.nD Cert.Reference12Ideal.τ).loc Cert.Reference12Ideal.main_arg13)
      ∧ r.2.mem ((c.tc : Thread Cert.Reference12Ideal.nD Cert.Reference12Ideal.τ).loc Cert.Reference12Ideal.main_arg14) = m ((c.tc : Thread Cert.Reference12Ideal.nD Cert.Reference12Ideal.τ).loc Cert.Reference12Ideal.main_arg14)
      ∧ r.2.mem ((c.tc : Thread Cert.Reference12Ideal.nD Cert.Reference12Ideal.τ).loc Cert.Reference12Ideal.main_arg15) = m ((c.tc : Thread Cert.Reference12Ideal.nD Cert.Reference12Ideal.τ).loc Cert.Reference12Ideal.main_arg15)
      ∧ r.2.mem ((c.tc : Thread Cert.Reference12Ideal.nD Cert.Reference12Ideal.τ).loc Cert.Reference12Ideal.main_arg16) = m ((c.tc : Thread Cert.Reference12Ideal.nD Cert.Reference12Ideal.τ).loc Cert.Reference12Ideal.main_arg16)
      ∧ r.2.mem ((c.tc : Thread Cert.Reference12Ideal.nD Cert.Reference12Ideal.τ).loc Cert.Reference12Ideal.main_arg17) = m ((c.tc : Thread Cert.Reference12Ideal.nD Cert.Reference12Ideal.τ).loc Cert.Reference12Ideal.main_arg17)
      ∧ r.2.mem ((c.tc : Thread Cert.Reference12Ideal.nD Cert.Reference12Ideal.τ).loc Cert.Reference12Ideal.main_arg18) = m ((c.tc : Thread Cert.Reference12Ideal.nD Cert.Reference12Ideal.τ).loc Cert.Reference12Ideal.main_arg18)
      ∧ r.2.mem ((c.tc : Thread Cert.Reference12Ideal.nD Cert.Reference12Ideal.τ).loc Cert.Reference12Ideal.main_arg19) = m ((c.tc : Thread Cert.Reference12Ideal.nD Cert.Reference12Ideal.τ).loc Cert.Reference12Ideal.main_arg19))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v16) = v0 c
          ∧ r.2.mem ((c.tc : Thread Cert.ReferenceIdeal.nD Cert.ReferenceIdeal.τ).loc Cert.ReferenceIdeal.main_v25) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)) →
    ∃ (v0 : (c : Dev Cert.Kernel2Ideal.nD) → Buf (Elt Ideal) ((c.tc : Thread Cert.Kernel2Ideal.nD Cert.Kernel2Ideal.τ).loc Cert.Kernel2Ideal.main_v7_0)) (v1 : (c : Dev Cert.Kernel2Ideal.nD) → Buf (Elt Ideal) ((c.tc : Thread Cert.Kernel2Ideal.nD Cert.Kernel2Ideal.τ).loc Cert.Kernel2Ideal.main_v7_1)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7_0) = v0 c
          ∧ r.2.mem ((c.tc : Thread Cert.Kernel2Ideal.nD Cert.Kernel2Ideal.τ).loc Cert.Kernel2Ideal.main_v7_1) = v1 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v16) = v0 c
          ∧ r.2.mem ((c.tc : Thread Cert.Reference2Ideal.nD Cert.Reference2Ideal.τ).loc Cert.Reference2Ideal.main_v25) = v1 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v7_0)) (v1 : (c : Dev Cert.Kernel3Ideal.nD) → Buf (Elt Ideal) ((c.tc : Thread Cert.Kernel3Ideal.nD Cert.Kernel3Ideal.τ).loc Cert.Kernel3Ideal.main_v7_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v7_0) = v0 c
          ∧ r.2.mem ((c.tc : Thread Cert.Kernel3Ideal.nD Cert.Kernel3Ideal.τ).loc Cert.Kernel3Ideal.main_v7_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v16) = v0 c
          ∧ r.2.mem ((c.tc : Thread Cert.Reference3Ideal.nD Cert.Reference3Ideal.τ).loc Cert.Reference3Ideal.main_v25) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v7_0)) (v1 : (c : Dev Cert.Kernel4Ideal.nD) → Buf (Elt Ideal) ((c.tc : Thread Cert.Kernel4Ideal.nD Cert.Kernel4Ideal.τ).loc Cert.Kernel4Ideal.main_v7_1)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7_0) = v0 c
          ∧ r.2.mem ((c.tc : Thread Cert.Kernel4Ideal.nD Cert.Kernel4Ideal.τ).loc Cert.Kernel4Ideal.main_v7_1) = v1 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v16) = v0 c
          ∧ r.2.mem ((c.tc : Thread Cert.Reference4Ideal.nD Cert.Reference4Ideal.τ).loc Cert.Reference4Ideal.main_v25) = v1 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v7_0)) (v1 : (c : Dev Cert.Kernel5Ideal.nD) → Buf (Elt Ideal) ((c.tc : Thread Cert.Kernel5Ideal.nD Cert.Kernel5Ideal.τ).loc Cert.Kernel5Ideal.main_v7_1)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v7_0) = v0 c
          ∧ r.2.mem ((c.tc : Thread Cert.Kernel5Ideal.nD Cert.Kernel5Ideal.τ).loc Cert.Kernel5Ideal.main_v7_1) = v1 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v16) = v0 c
          ∧ r.2.mem ((c.tc : Thread Cert.Reference5Ideal.nD Cert.Reference5Ideal.τ).loc Cert.Reference5Ideal.main_v25) = v1 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v7_0)) (v1 : (c : Dev Cert.Kernel6Ideal.nD) → Buf (Elt Ideal) ((c.tc : Thread Cert.Kernel6Ideal.nD Cert.Kernel6Ideal.τ).loc Cert.Kernel6Ideal.main_v7_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v7_0) = v0 c
          ∧ r.2.mem ((c.tc : Thread Cert.Kernel6Ideal.nD Cert.Kernel6Ideal.τ).loc Cert.Kernel6Ideal.main_v7_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v16) = v0 c
          ∧ r.2.mem ((c.tc : Thread Cert.Reference6Ideal.nD Cert.Reference6Ideal.τ).loc Cert.Reference6Ideal.main_v25) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v7_0)) (v1 : (c : Dev Cert.Kernel7Ideal.nD) → Buf (Elt Ideal) ((c.tc : Thread Cert.Kernel7Ideal.nD Cert.Kernel7Ideal.τ).loc Cert.Kernel7Ideal.main_v7_1)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7_0) = v0 c
          ∧ r.2.mem ((c.tc : Thread Cert.Kernel7Ideal.nD Cert.Kernel7Ideal.τ).loc Cert.Kernel7Ideal.main_v7_1) = v1 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v16) = v0 c
          ∧ r.2.mem ((c.tc : Thread Cert.Reference7Ideal.nD Cert.Reference7Ideal.τ).loc Cert.Reference7Ideal.main_v25) = v1 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v7_0)) (v1 : (c : Dev Cert.Kernel8Ideal.nD) → Buf (Elt Ideal) ((c.tc : Thread Cert.Kernel8Ideal.nD Cert.Kernel8Ideal.τ).loc Cert.Kernel8Ideal.main_v7_1)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v7_0) = v0 c
          ∧ r.2.mem ((c.tc : Thread Cert.Kernel8Ideal.nD Cert.Kernel8Ideal.τ).loc Cert.Kernel8Ideal.main_v7_1) = v1 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v16) = v0 c
          ∧ r.2.mem ((c.tc : Thread Cert.Reference8Ideal.nD Cert.Reference8Ideal.τ).loc Cert.Reference8Ideal.main_v25) = v1 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v7_0)) (v1 : (c : Dev Cert.Kernel9Ideal.nD) → Buf (Elt Ideal) ((c.tc : Thread Cert.Kernel9Ideal.nD Cert.Kernel9Ideal.τ).loc Cert.Kernel9Ideal.main_v7_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v7_0) = v0 c
          ∧ r.2.mem ((c.tc : Thread Cert.Kernel9Ideal.nD Cert.Kernel9Ideal.τ).loc Cert.Kernel9Ideal.main_v7_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v16) = v0 c
          ∧ r.2.mem ((c.tc : Thread Cert.Reference9Ideal.nD Cert.Reference9Ideal.τ).loc Cert.Reference9Ideal.main_v25) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v7_0)) (v1 : (c : Dev Cert.Kernel10Ideal.nD) → Buf (Elt Ideal) ((c.tc : Thread Cert.Kernel10Ideal.nD Cert.Kernel10Ideal.τ).loc Cert.Kernel10Ideal.main_v7_1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v7_0) = v0 c
          ∧ r.2.mem ((c.tc : Thread Cert.Kernel10Ideal.nD Cert.Kernel10Ideal.τ).loc Cert.Kernel10Ideal.main_v7_1) = v1 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v16) = v0 c
          ∧ r.2.mem ((c.tc : Thread Cert.Reference10Ideal.nD Cert.Reference10Ideal.τ).loc Cert.Reference10Ideal.main_v25) = v1 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)
      ∧ m' ((c.tc : Thread Cert.Reference11Ideal.nD Cert.Reference11Ideal.τ).loc Cert.Reference11Ideal.main_arg5) = m ((c.tc : Thread Cert.Kernel11Ideal.nD Cert.Kernel11Ideal.τ).loc Cert.Kernel11Ideal.main_arg5)) →
    ∃ (v0 : (c : Dev Cert.Kernel11Ideal.nD) → Buf (Elt Ideal) ((c.tc : Thread Cert.Kernel11Ideal.nD Cert.Kernel11Ideal.τ).loc Cert.Kernel11Ideal.main_v6_0)) (v1 : (c : Dev Cert.Kernel11Ideal.nD) → Buf (Elt Ideal) ((c.tc : Thread Cert.Kernel11Ideal.nD Cert.Kernel11Ideal.τ).loc Cert.Kernel11Ideal.main_v6_1)) (v2 : (c : Dev Cert.Kernel11Ideal.nD) → Buf (Elt Ideal) ((c.tc : Thread Cert.Kernel11Ideal.nD Cert.Kernel11Ideal.τ).loc Cert.Kernel11Ideal.main_v6_2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v6_0) = v0 c
          ∧ r.2.mem ((c.tc : Thread Cert.Kernel11Ideal.nD Cert.Kernel11Ideal.τ).loc Cert.Kernel11Ideal.main_v6_1) = v1 c
          ∧ r.2.mem ((c.tc : Thread Cert.Kernel11Ideal.nD Cert.Kernel11Ideal.τ).loc Cert.Kernel11Ideal.main_v6_2) = v2 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4)
          ∧ r.2.mem ((c.tc : Thread Cert.Kernel11Ideal.nD Cert.Kernel11Ideal.τ).loc Cert.Kernel11Ideal.main_arg5) = m ((c.tc : Thread Cert.Kernel11Ideal.nD Cert.Kernel11Ideal.τ).loc Cert.Kernel11Ideal.main_arg5))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v60) = v0 c
          ∧ r.2.mem ((c.tc : Thread Cert.Reference11Ideal.nD Cert.Reference11Ideal.τ).loc Cert.Reference11Ideal.main_v72) = v1 c
          ∧ r.2.mem ((c.tc : Thread Cert.Reference11Ideal.nD Cert.Reference11Ideal.τ).loc Cert.Reference11Ideal.main_v73) = v2 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4)
          ∧ r.2.mem ((c.tc : Thread Cert.Reference11Ideal.nD Cert.Reference11Ideal.τ).loc Cert.Reference11Ideal.main_arg5) = m' ((c.tc : Thread Cert.Reference11Ideal.nD Cert.Reference11Ideal.τ).loc Cert.Reference11Ideal.main_arg5))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)
      ∧ m' ((c.tc : Thread Cert.Reference12Ideal.nD Cert.Reference12Ideal.τ).loc Cert.Reference12Ideal.main_arg2) = m ((c.tc : Thread Cert.Kernel12Ideal.nD Cert.Kernel12Ideal.τ).loc Cert.Kernel12Ideal.main_arg2)
      ∧ m' ((c.tc : Thread Cert.Reference12Ideal.nD Cert.Reference12Ideal.τ).loc Cert.Reference12Ideal.main_arg3) = m ((c.tc : Thread Cert.Kernel12Ideal.nD Cert.Kernel12Ideal.τ).loc Cert.Kernel12Ideal.main_arg3)
      ∧ m' ((c.tc : Thread Cert.Reference12Ideal.nD Cert.Reference12Ideal.τ).loc Cert.Reference12Ideal.main_arg4) = m ((c.tc : Thread Cert.Kernel12Ideal.nD Cert.Kernel12Ideal.τ).loc Cert.Kernel12Ideal.main_arg4)
      ∧ m' ((c.tc : Thread Cert.Reference12Ideal.nD Cert.Reference12Ideal.τ).loc Cert.Reference12Ideal.main_arg5) = m ((c.tc : Thread Cert.Kernel12Ideal.nD Cert.Kernel12Ideal.τ).loc Cert.Kernel12Ideal.main_arg5)
      ∧ m' ((c.tc : Thread Cert.Reference12Ideal.nD Cert.Reference12Ideal.τ).loc Cert.Reference12Ideal.main_arg6) = m ((c.tc : Thread Cert.Kernel12Ideal.nD Cert.Kernel12Ideal.τ).loc Cert.Kernel12Ideal.main_arg6)
      ∧ m' ((c.tc : Thread Cert.Reference12Ideal.nD Cert.Reference12Ideal.τ).loc Cert.Reference12Ideal.main_arg7) = m ((c.tc : Thread Cert.Kernel12Ideal.nD Cert.Kernel12Ideal.τ).loc Cert.Kernel12Ideal.main_arg7)
      ∧ m' ((c.tc : Thread Cert.Reference12Ideal.nD Cert.Reference12Ideal.τ).loc Cert.Reference12Ideal.main_arg8) = m ((c.tc : Thread Cert.Kernel12Ideal.nD Cert.Kernel12Ideal.τ).loc Cert.Kernel12Ideal.main_arg8)
      ∧ m' ((c.tc : Thread Cert.Reference12Ideal.nD Cert.Reference12Ideal.τ).loc Cert.Reference12Ideal.main_arg9) = m ((c.tc : Thread Cert.Kernel12Ideal.nD Cert.Kernel12Ideal.τ).loc Cert.Kernel12Ideal.main_arg9)
      ∧ m' ((c.tc : Thread Cert.Reference12Ideal.nD Cert.Reference12Ideal.τ).loc Cert.Reference12Ideal.main_arg10) = m ((c.tc : Thread Cert.Kernel12Ideal.nD Cert.Kernel12Ideal.τ).loc Cert.Kernel12Ideal.main_arg10)
      ∧ m' ((c.tc : Thread Cert.Reference12Ideal.nD Cert.Reference12Ideal.τ).loc Cert.Reference12Ideal.main_arg11) = m ((c.tc : Thread Cert.Kernel12Ideal.nD Cert.Kernel12Ideal.τ).loc Cert.Kernel12Ideal.main_arg11)
      ∧ m' ((c.tc : Thread Cert.Reference12Ideal.nD Cert.Reference12Ideal.τ).loc Cert.Reference12Ideal.main_arg12) = m ((c.tc : Thread Cert.Kernel12Ideal.nD Cert.Kernel12Ideal.τ).loc Cert.Kernel12Ideal.main_arg12)
      ∧ m' ((c.tc : Thread Cert.Reference12Ideal.nD Cert.Reference12Ideal.τ).loc Cert.Reference12Ideal.main_arg13) = m ((c.tc : Thread Cert.Kernel12Ideal.nD Cert.Kernel12Ideal.τ).loc Cert.Kernel12Ideal.main_arg13)
      ∧ m' ((c.tc : Thread Cert.Reference12Ideal.nD Cert.Reference12Ideal.τ).loc Cert.Reference12Ideal.main_arg14) = m ((c.tc : Thread Cert.Kernel12Ideal.nD Cert.Kernel12Ideal.τ).loc Cert.Kernel12Ideal.main_arg14)
      ∧ m' ((c.tc : Thread Cert.Reference12Ideal.nD Cert.Reference12Ideal.τ).loc Cert.Reference12Ideal.main_arg15) = m ((c.tc : Thread Cert.Kernel12Ideal.nD Cert.Kernel12Ideal.τ).loc Cert.Kernel12Ideal.main_arg15)
      ∧ m' ((c.tc : Thread Cert.Reference12Ideal.nD Cert.Reference12Ideal.τ).loc Cert.Reference12Ideal.main_arg16) = m ((c.tc : Thread Cert.Kernel12Ideal.nD Cert.Kernel12Ideal.τ).loc Cert.Kernel12Ideal.main_arg16)
      ∧ m' ((c.tc : Thread Cert.Reference12Ideal.nD Cert.Reference12Ideal.τ).loc Cert.Reference12Ideal.main_arg17) = m ((c.tc : Thread Cert.Kernel12Ideal.nD Cert.Kernel12Ideal.τ).loc Cert.Kernel12Ideal.main_arg17)
      ∧ m' ((c.tc : Thread Cert.Reference12Ideal.nD Cert.Reference12Ideal.τ).loc Cert.Reference12Ideal.main_arg18) = m ((c.tc : Thread Cert.Kernel12Ideal.nD Cert.Kernel12Ideal.τ).loc Cert.Kernel12Ideal.main_arg18)
      ∧ m' ((c.tc : Thread Cert.Reference12Ideal.nD Cert.Reference12Ideal.τ).loc Cert.Reference12Ideal.main_arg19) = m ((c.tc : Thread Cert.Kernel12Ideal.nD Cert.Kernel12Ideal.τ).loc Cert.Kernel12Ideal.main_arg19)) →
    ∃ (v0 : (c : Dev Cert.Kernel12Ideal.nD) → Buf (Elt Ideal) ((c.tc : Thread Cert.Kernel12Ideal.nD Cert.Kernel12Ideal.τ).loc Cert.Kernel12Ideal.main_v0_0)) (v1 : (c : Dev Cert.Kernel12Ideal.nD) → Buf (Elt Ideal) ((c.tc : Thread Cert.Kernel12Ideal.nD Cert.Kernel12Ideal.τ).loc Cert.Kernel12Ideal.main_v0_1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0_0) = v0 c
          ∧ r.2.mem ((c.tc : Thread Cert.Kernel12Ideal.nD Cert.Kernel12Ideal.τ).loc Cert.Kernel12Ideal.main_v0_1) = v1 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1)
          ∧ r.2.mem ((c.tc : Thread Cert.Kernel12Ideal.nD Cert.Kernel12Ideal.τ).loc Cert.Kernel12Ideal.main_arg2) = m ((c.tc : Thread Cert.Kernel12Ideal.nD Cert.Kernel12Ideal.τ).loc Cert.Kernel12Ideal.main_arg2)
          ∧ r.2.mem ((c.tc : Thread Cert.Kernel12Ideal.nD Cert.Kernel12Ideal.τ).loc Cert.Kernel12Ideal.main_arg3) = m ((c.tc : Thread Cert.Kernel12Ideal.nD Cert.Kernel12Ideal.τ).loc Cert.Kernel12Ideal.main_arg3)
          ∧ r.2.mem ((c.tc : Thread Cert.Kernel12Ideal.nD Cert.Kernel12Ideal.τ).loc Cert.Kernel12Ideal.main_arg4) = m ((c.tc : Thread Cert.Kernel12Ideal.nD Cert.Kernel12Ideal.τ).loc Cert.Kernel12Ideal.main_arg4)
          ∧ r.2.mem ((c.tc : Thread Cert.Kernel12Ideal.nD Cert.Kernel12Ideal.τ).loc Cert.Kernel12Ideal.main_arg5) = m ((c.tc : Thread Cert.Kernel12Ideal.nD Cert.Kernel12Ideal.τ).loc Cert.Kernel12Ideal.main_arg5)
          ∧ r.2.mem ((c.tc : Thread Cert.Kernel12Ideal.nD Cert.Kernel12Ideal.τ).loc Cert.Kernel12Ideal.main_arg6) = m ((c.tc : Thread Cert.Kernel12Ideal.nD Cert.Kernel12Ideal.τ).loc Cert.Kernel12Ideal.main_arg6)
          ∧ r.2.mem ((c.tc : Thread Cert.Kernel12Ideal.nD Cert.Kernel12Ideal.τ).loc Cert.Kernel12Ideal.main_arg7) = m ((c.tc : Thread Cert.Kernel12Ideal.nD Cert.Kernel12Ideal.τ).loc Cert.Kernel12Ideal.main_arg7)
          ∧ r.2.mem ((c.tc : Thread Cert.Kernel12Ideal.nD Cert.Kernel12Ideal.τ).loc Cert.Kernel12Ideal.main_arg8) = m ((c.tc : Thread Cert.Kernel12Ideal.nD Cert.Kernel12Ideal.τ).loc Cert.Kernel12Ideal.main_arg8)
          ∧ r.2.mem ((c.tc : Thread Cert.Kernel12Ideal.nD Cert.Kernel12Ideal.τ).loc Cert.Kernel12Ideal.main_arg9) = m ((c.tc : Thread Cert.Kernel12Ideal.nD Cert.Kernel12Ideal.τ).loc Cert.Kernel12Ideal.main_arg9)
          ∧ r.2.mem ((c.tc : Thread Cert.Kernel12Ideal.nD Cert.Kernel12Ideal.τ).loc Cert.Kernel12Ideal.main_arg10) = m ((c.tc : Thread Cert.Kernel12Ideal.nD Cert.Kernel12Ideal.τ).loc Cert.Kernel12Ideal.main_arg10)
          ∧ r.2.mem ((c.tc : Thread Cert.Kernel12Ideal.nD Cert.Kernel12Ideal.τ).loc Cert.Kernel12Ideal.main_arg11) = m ((c.tc : Thread Cert.Kernel12Ideal.nD Cert.Kernel12Ideal.τ).loc Cert.Kernel12Ideal.main_arg11)
          ∧ r.2.mem ((c.tc : Thread Cert.Kernel12Ideal.nD Cert.Kernel12Ideal.τ).loc Cert.Kernel12Ideal.main_arg12) = m ((c.tc : Thread Cert.Kernel12Ideal.nD Cert.Kernel12Ideal.τ).loc Cert.Kernel12Ideal.main_arg12)
          ∧ r.2.mem ((c.tc : Thread Cert.Kernel12Ideal.nD Cert.Kernel12Ideal.τ).loc Cert.Kernel12Ideal.main_arg13) = m ((c.tc : Thread Cert.Kernel12Ideal.nD Cert.Kernel12Ideal.τ).loc Cert.Kernel12Ideal.main_arg13)
          ∧ r.2.mem ((c.tc : Thread Cert.Kernel12Ideal.nD Cert.Kernel12Ideal.τ).loc Cert.Kernel12Ideal.main_arg14) = m ((c.tc : Thread Cert.Kernel12Ideal.nD Cert.Kernel12Ideal.τ).loc Cert.Kernel12Ideal.main_arg14)
          ∧ r.2.mem ((c.tc : Thread Cert.Kernel12Ideal.nD Cert.Kernel12Ideal.τ).loc Cert.Kernel12Ideal.main_arg15) = m ((c.tc : Thread Cert.Kernel12Ideal.nD Cert.Kernel12Ideal.τ).loc Cert.Kernel12Ideal.main_arg15)
          ∧ r.2.mem ((c.tc : Thread Cert.Kernel12Ideal.nD Cert.Kernel12Ideal.τ).loc Cert.Kernel12Ideal.main_arg16) = m ((c.tc : Thread Cert.Kernel12Ideal.nD Cert.Kernel12Ideal.τ).loc Cert.Kernel12Ideal.main_arg16)
          ∧ r.2.mem ((c.tc : Thread Cert.Kernel12Ideal.nD Cert.Kernel12Ideal.τ).loc Cert.Kernel12Ideal.main_arg17) = m ((c.tc : Thread Cert.Kernel12Ideal.nD Cert.Kernel12Ideal.τ).loc Cert.Kernel12Ideal.main_arg17)
          ∧ r.2.mem ((c.tc : Thread Cert.Kernel12Ideal.nD Cert.Kernel12Ideal.τ).loc Cert.Kernel12Ideal.main_arg18) = m ((c.tc : Thread Cert.Kernel12Ideal.nD Cert.Kernel12Ideal.τ).loc Cert.Kernel12Ideal.main_arg18)
          ∧ r.2.mem ((c.tc : Thread Cert.Kernel12Ideal.nD Cert.Kernel12Ideal.τ).loc Cert.Kernel12Ideal.main_arg19) = m ((c.tc : Thread Cert.Kernel12Ideal.nD Cert.Kernel12Ideal.τ).loc Cert.Kernel12Ideal.main_arg19))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v15) = v0 c
          ∧ r.2.mem ((c.tc : Thread Cert.Reference12Ideal.nD Cert.Reference12Ideal.τ).loc Cert.Reference12Ideal.main_v16) = v1 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1)
          ∧ r.2.mem ((c.tc : Thread Cert.Reference12Ideal.nD Cert.Reference12Ideal.τ).loc Cert.Reference12Ideal.main_arg2) = m' ((c.tc : Thread Cert.Reference12Ideal.nD Cert.Reference12Ideal.τ).loc Cert.Reference12Ideal.main_arg2)
          ∧ r.2.mem ((c.tc : Thread Cert.Reference12Ideal.nD Cert.Reference12Ideal.τ).loc Cert.Reference12Ideal.main_arg3) = m' ((c.tc : Thread Cert.Reference12Ideal.nD Cert.Reference12Ideal.τ).loc Cert.Reference12Ideal.main_arg3)
          ∧ r.2.mem ((c.tc : Thread Cert.Reference12Ideal.nD Cert.Reference12Ideal.τ).loc Cert.Reference12Ideal.main_arg4) = m' ((c.tc : Thread Cert.Reference12Ideal.nD Cert.Reference12Ideal.τ).loc Cert.Reference12Ideal.main_arg4)
          ∧ r.2.mem ((c.tc : Thread Cert.Reference12Ideal.nD Cert.Reference12Ideal.τ).loc Cert.Reference12Ideal.main_arg5) = m' ((c.tc : Thread Cert.Reference12Ideal.nD Cert.Reference12Ideal.τ).loc Cert.Reference12Ideal.main_arg5)
          ∧ r.2.mem ((c.tc : Thread Cert.Reference12Ideal.nD Cert.Reference12Ideal.τ).loc Cert.Reference12Ideal.main_arg6) = m' ((c.tc : Thread Cert.Reference12Ideal.nD Cert.Reference12Ideal.τ).loc Cert.Reference12Ideal.main_arg6)
          ∧ r.2.mem ((c.tc : Thread Cert.Reference12Ideal.nD Cert.Reference12Ideal.τ).loc Cert.Reference12Ideal.main_arg7) = m' ((c.tc : Thread Cert.Reference12Ideal.nD Cert.Reference12Ideal.τ).loc Cert.Reference12Ideal.main_arg7)
          ∧ r.2.mem ((c.tc : Thread Cert.Reference12Ideal.nD Cert.Reference12Ideal.τ).loc Cert.Reference12Ideal.main_arg8) = m' ((c.tc : Thread Cert.Reference12Ideal.nD Cert.Reference12Ideal.τ).loc Cert.Reference12Ideal.main_arg8)
          ∧ r.2.mem ((c.tc : Thread Cert.Reference12Ideal.nD Cert.Reference12Ideal.τ).loc Cert.Reference12Ideal.main_arg9) = m' ((c.tc : Thread Cert.Reference12Ideal.nD Cert.Reference12Ideal.τ).loc Cert.Reference12Ideal.main_arg9)
          ∧ r.2.mem ((c.tc : Thread Cert.Reference12Ideal.nD Cert.Reference12Ideal.τ).loc Cert.Reference12Ideal.main_arg10) = m' ((c.tc : Thread Cert.Reference12Ideal.nD Cert.Reference12Ideal.τ).loc Cert.Reference12Ideal.main_arg10)
          ∧ r.2.mem ((c.tc : Thread Cert.Reference12Ideal.nD Cert.Reference12Ideal.τ).loc Cert.Reference12Ideal.main_arg11) = m' ((c.tc : Thread Cert.Reference12Ideal.nD Cert.Reference12Ideal.τ).loc Cert.Reference12Ideal.main_arg11)
          ∧ r.2.mem ((c.tc : Thread Cert.Reference12Ideal.nD Cert.Reference12Ideal.τ).loc Cert.Reference12Ideal.main_arg12) = m' ((c.tc : Thread Cert.Reference12Ideal.nD Cert.Reference12Ideal.τ).loc Cert.Reference12Ideal.main_arg12)
          ∧ r.2.mem ((c.tc : Thread Cert.Reference12Ideal.nD Cert.Reference12Ideal.τ).loc Cert.Reference12Ideal.main_arg13) = m' ((c.tc : Thread Cert.Reference12Ideal.nD Cert.Reference12Ideal.τ).loc Cert.Reference12Ideal.main_arg13)
          ∧ r.2.mem ((c.tc : Thread Cert.Reference12Ideal.nD Cert.Reference12Ideal.τ).loc Cert.Reference12Ideal.main_arg14) = m' ((c.tc : Thread Cert.Reference12Ideal.nD Cert.Reference12Ideal.τ).loc Cert.Reference12Ideal.main_arg14)
          ∧ r.2.mem ((c.tc : Thread Cert.Reference12Ideal.nD Cert.Reference12Ideal.τ).loc Cert.Reference12Ideal.main_arg15) = m' ((c.tc : Thread Cert.Reference12Ideal.nD Cert.Reference12Ideal.τ).loc Cert.Reference12Ideal.main_arg15)
          ∧ r.2.mem ((c.tc : Thread Cert.Reference12Ideal.nD Cert.Reference12Ideal.τ).loc Cert.Reference12Ideal.main_arg16) = m' ((c.tc : Thread Cert.Reference12Ideal.nD Cert.Reference12Ideal.τ).loc Cert.Reference12Ideal.main_arg16)
          ∧ r.2.mem ((c.tc : Thread Cert.Reference12Ideal.nD Cert.Reference12Ideal.τ).loc Cert.Reference12Ideal.main_arg17) = m' ((c.tc : Thread Cert.Reference12Ideal.nD Cert.Reference12Ideal.τ).loc Cert.Reference12Ideal.main_arg17)
          ∧ r.2.mem ((c.tc : Thread Cert.Reference12Ideal.nD Cert.Reference12Ideal.τ).loc Cert.Reference12Ideal.main_arg18) = m' ((c.tc : Thread Cert.Reference12Ideal.nD Cert.Reference12Ideal.τ).loc Cert.Reference12Ideal.main_arg18)
          ∧ r.2.mem ((c.tc : Thread Cert.Reference12Ideal.nD Cert.Reference12Ideal.τ).loc Cert.Reference12Ideal.main_arg19) = m' ((c.tc : Thread Cert.Reference12Ideal.nD Cert.Reference12Ideal.τ).loc Cert.Reference12Ideal.main_arg19))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v5) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)) →
    ∃ (v0 : (c : Dev Cert.Kernel14Ideal.nD) → Buf (Elt Ideal) ((c.tc : Thread Cert.Kernel14Ideal.nD Cert.Kernel14Ideal.τ).loc Cert.Kernel14Ideal.main_v6_0)) (v1 : (c : Dev Cert.Kernel14Ideal.nD) → Buf (Elt Ideal) ((c.tc : Thread Cert.Kernel14Ideal.nD Cert.Kernel14Ideal.τ).loc Cert.Kernel14Ideal.main_v6_1)) (v2 : (c : Dev Cert.Kernel14Ideal.nD) → Buf (Elt Ideal) ((c.tc : Thread Cert.Kernel14Ideal.nD Cert.Kernel14Ideal.τ).loc Cert.Kernel14Ideal.main_v6_2)) (v3 : (c : Dev Cert.Kernel14Ideal.nD) → Buf (Elt Ideal) ((c.tc : Thread Cert.Kernel14Ideal.nD Cert.Kernel14Ideal.τ).loc Cert.Kernel14Ideal.main_v6_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v6_0) = v0 c
          ∧ r.2.mem ((c.tc : Thread Cert.Kernel14Ideal.nD Cert.Kernel14Ideal.τ).loc Cert.Kernel14Ideal.main_v6_1) = v1 c
          ∧ r.2.mem ((c.tc : Thread Cert.Kernel14Ideal.nD Cert.Kernel14Ideal.τ).loc Cert.Kernel14Ideal.main_v6_2) = v2 c
          ∧ r.2.mem ((c.tc : Thread Cert.Kernel14Ideal.nD Cert.Kernel14Ideal.τ).loc Cert.Kernel14Ideal.main_v6_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v65) = v0 c
          ∧ r.2.mem ((c.tc : Thread Cert.Reference14Ideal.nD Cert.Reference14Ideal.τ).loc Cert.Reference14Ideal.main_v64) = v1 c
          ∧ r.2.mem ((c.tc : Thread Cert.Reference14Ideal.nD Cert.Reference14Ideal.τ).loc Cert.Reference14Ideal.main_v76) = v2 c
          ∧ r.2.mem ((c.tc : Thread Cert.Reference14Ideal.nD Cert.Reference14Ideal.τ).loc Cert.Reference14Ideal.main_v82) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
-- ==== Kernel.lean ====
abbrev S4096x64 : Shape := ⟨2, ![4096, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S4096 : Shape := ⟨1, ![4096]⟩
abbrev S4096x1 : Shape := ⟨2, ![4096, 1]⟩
abbrev S512x64 : Shape := ⟨2, ![512, 64]⟩
abbrev S512x1 : Shape := ⟨2, ![512, 1]⟩
abbrev S512x8192 : Shape := ⟨2, ![512, 8192]⟩
abbrev S512 : Shape := ⟨1, ![512]⟩

abbrev nBuf : Space → Nat
  | .hbm => 13
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x64, .f32⟩
  | .hbm, ⟨12, _⟩ => ⟨S1x8192, .f32⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S512x64, .f32⟩
  | .local _ .vmem, ⟨8, _⟩ => ⟨S512x64, .f32⟩
  | .local _ .vmem, ⟨9, _⟩ => ⟨S1x8192, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== KernelIdeal.lean ====
abbrev S4096x64 : Shape := ⟨2, ![4096, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S4096 : Shape := ⟨1, ![4096]⟩
abbrev S4096x1 : Shape := ⟨2, ![4096, 1]⟩
abbrev S512x64 : Shape := ⟨2, ![512, 64]⟩
abbrev S512x1 : Shape := ⟨2, ![512, 1]⟩
abbrev S512x8192 : Shape := ⟨2, ![512, 8192]⟩
abbrev S512 : Shape := ⟨1, ![512]⟩

abbrev nBuf : Space → Nat
  | .hbm => 13
  | .vmem => 10
  | .smem => 0
  | _ => 0

abbrev bufTy : (tb : Table) → Fin (tcTables nBuf tb) → BufTy
  | .hbm, ⟨0, _⟩ => ⟨S4096x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S4096x64, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S4096x64, .f32⟩
  | .hbm, ⟨12, _⟩ => ⟨S1x8192, .f32⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S512x64, .f32⟩
  | .local _ .vmem, ⟨8, _⟩ => ⟨S512x64, .f32⟩
  | .local _ .vmem, ⟨9, _⟩ => ⟨S1x8192, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S4096x64 : Shape := ⟨2, ![4096, 64]⟩
abbrev S8192x64 : Shape := ⟨2, ![8192, 64]⟩
abbrev S_ : Shape := ⟨0, ![]⟩
abbrev S8192 : Shape := ⟨1, ![8192]⟩
abbrev S4096 : Shape := ⟨1, ![4096]⟩
abbrev S4096x1 : Shape := ⟨2, ![4096, 1]⟩
abbrev S1x8192 : Shape := ⟨2, ![1, 8192]⟩
abbrev S4096x8192 : Shape := ⟨2, ![4096, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S4096x64, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S1x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S64x8192, .f32⟩
  | .hbm, ⟨14, _⟩ => ⟨S4096x8192, .f32⟩
  | .hbm, ⟨15, _⟩ => ⟨S_, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S4096x8192, .i32⟩
  | .hbm, ⟨20, _⟩ => ⟨S_, .f32⟩
  | .hbm, ⟨21, _⟩ => ⟨S_, .i32⟩
  | .hbm, ⟨22, _⟩ => ⟨S4096, .f32⟩
  | .hbm, ⟨23, _⟩ => ⟨S4096, .i32⟩
  | .hbm, ⟨24, _⟩ => ⟨S4096x1, .i32⟩
  | .hbm, ⟨25, _⟩ => ⟨S4096x64, .f32⟩
  | .hbm, ⟨26, _⟩ => ⟨S4096x1, .i32⟩
  | .hbm, ⟨27, _⟩ => ⟨S8192, .i32⟩
  | .hbm, ⟨28, _⟩ => ⟨S1x8192, .i32⟩
  | .hbm, ⟨29, _⟩ => ⟨S4096x8192, .i32⟩
  | .hbm, ⟨30, _⟩ => ⟨S4096x8192, .i32⟩
  | .hbm, ⟨31, _⟩ => ⟨S4096x8192, .i1⟩
  | .hbm, ⟨32, _⟩ => ⟨S4096x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel2.lean ====
abbrev S2704x64 : Shape := ⟨2, ![2704, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S2704 : Shape := ⟨1, ![2704]⟩
abbrev S2704x1 : Shape := ⟨2, ![2704, 1]⟩
abbrev S208x64 : Shape := ⟨2, ![208, 64]⟩
abbrev S208x1 : Shape := ⟨2, ![208, 1]⟩
abbrev S208x8192 : Shape := ⟨2, ![208, 8192]⟩
abbrev S208 : Shape := ⟨1, ![208]⟩

abbrev nBuf : Space → Nat
  | .hbm => 13
  | .vmem => 10
  | .smem => 0
  | _ => 0

abbrev bufTy : (tb : Table) → Fin (tcTables nBuf tb) → BufTy
  | .hbm, ⟨0, _⟩ => ⟨S2704x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S2704x64, .f32⟩
  | .hbm, ⟨8, _⟩ => ⟨S_, .f32⟩
  | .hbm, ⟨9, _⟩ => ⟨S2704, .f32⟩
  | .hbm, ⟨10, _⟩ => ⟨S2704x1, .f32⟩
  | .hbm, ⟨11, _⟩ => ⟨S2704x64, .f32⟩
  | .hbm, ⟨12, _⟩ => ⟨S1x8192, .f32⟩
  | .local _ .vmem, ⟨0, _⟩ => ⟨S208x64, .f32⟩
  | .local _ .vmem, ⟨1, _⟩ => ⟨S208x64, .f32⟩
  | .local _ .vmem, ⟨2, _⟩ => ⟨S208x1, .f32⟩
  | .local _ .vmem, ⟨3, _⟩ => ⟨S208x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S208x64, .f32⟩
  | .local _ .vmem, ⟨8, _⟩ => ⟨S208x64, .f32⟩
  | .local _ .vmem, ⟨9, _⟩ => ⟨S1x8192, .f32⟩
  | _, _ => ⟨S2704x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S208x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel2Ideal.lean ====
abbrev S2704x64 : Shape := ⟨2, ![2704, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S2704 : Shape := ⟨1, ![2704]⟩
abbrev S2704x1 : Shape := ⟨2, ![2704, 1]⟩
abbrev S208x64 : Shape := ⟨2, ![208, 64]⟩
abbrev S208x1 : Shape := ⟨2, ![208, 1]⟩
abbrev S208x8192 : Shape := ⟨2, ![208, 8192]⟩
abbrev S208 : Shape := ⟨1, ![208]⟩

abbrev nBuf : Space → Nat
  | .hbm => 13
  | .vmem => 10
  | .smem => 0
  | _ => 0

abbrev bufTy : (tb : Table) → Fin (tcTables nBuf tb) → BufTy
  | .hbm, ⟨0, _⟩ => ⟨S2704x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S2704x64, .f32⟩
  | .hbm, ⟨8, _⟩ => ⟨S_, .f32⟩
  | .hbm, ⟨9, _⟩ => ⟨S2704, .f32⟩
  | .hbm, ⟨10, _⟩ => ⟨S2704x1, .f32⟩
  | .hbm, ⟨11, _⟩ => ⟨S2704x64, .f32⟩
  | .hbm, ⟨12, _⟩ => ⟨S1x8192, .f32⟩
  | .local _ .vmem, ⟨0, _⟩ => ⟨S208x64, .f32⟩
  | .local _ .vmem, ⟨1, _⟩ => ⟨S208x64, .f32⟩
  | .local _ .vmem, ⟨2, _⟩ => ⟨S208x1, .f32⟩
  | .local _ .vmem, ⟨3, _⟩ => ⟨S208x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S208x64, .f32⟩
  | .local _ .vmem, ⟨8, _⟩ => ⟨S208x64, .f32⟩
  | .local _ .vmem, ⟨9, _⟩ => ⟨S1x8192, .f32⟩
  | _, _ => ⟨S2704x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![13], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S208x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S208x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S208x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference2Ideal.lean ====
abbrev S2704x64 : Shape := ⟨2, ![2704, 64]⟩
abbrev S8192x64 : Shape := ⟨2, ![8192, 64]⟩
abbrev S_ : Shape := ⟨0, ![]⟩
abbrev S8192 : Shape := ⟨1, ![8192]⟩
abbrev S2704 : Shape := ⟨1, ![2704]⟩
abbrev S2704x1 : Shape := ⟨2, ![2704, 1]⟩
abbrev S1x8192 : Shape := ⟨2, ![1, 8192]⟩
abbrev S2704x8192 : Shape := ⟨2, ![2704, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S2704x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S2704x64, .f32⟩
  | .hbm, ⟨6, _⟩ => ⟨S_, .f32⟩
  | .hbm, ⟨7, _⟩ => ⟨S2704, .f32⟩
  | .hbm, ⟨8, _⟩ => ⟨S2704x1, .f32⟩
  | .hbm, ⟨9, _⟩ => ⟨S1x8192, .f32⟩
  | .hbm, ⟨10, _⟩ => ⟨S2704x8192, .f32⟩
  | .hbm, ⟨11, _⟩ => ⟨S2704x8192, .f32⟩
  | .hbm, ⟨12, _⟩ => ⟨S2704x8192, .f32⟩
  | .hbm, ⟨13, _⟩ => ⟨S64x8192, .f32⟩
  | .hbm, ⟨14, _⟩ => ⟨S2704x8192, .f32⟩
  | .hbm, ⟨15, _⟩ => ⟨S_, .f32⟩
  | .hbm, ⟨16, _⟩ => ⟨S2704x8192, .f32⟩
  | .hbm, ⟨17, _⟩ => ⟨S2704x8192, .f32⟩
  | .hbm, ⟨18, _⟩ => ⟨S2704x8192, .f32⟩
  | .hbm, ⟨19, _⟩ => ⟨S2704x8192, .i32⟩
  | .hbm, ⟨20, _⟩ => ⟨S_, .f32⟩
  | .hbm, ⟨21, _⟩ => ⟨S_, .i32⟩
  | .hbm, ⟨22, _⟩ => ⟨S2704, .f32⟩
  | .hbm, ⟨23, _⟩ => ⟨S2704, .i32⟩
  | .hbm, ⟨24, _⟩ => ⟨S2704x1, .i32⟩
  | .hbm, ⟨25, _⟩ => ⟨S2704x64, .f32⟩
  | .hbm, ⟨26, _⟩ => ⟨S2704x1, .i32⟩
  | .hbm, ⟨27, _⟩ => ⟨S8192, .i32⟩
  | .hbm, ⟨28, _⟩ => ⟨S1x8192, .i32⟩
  | .hbm, ⟨29, _⟩ => ⟨S2704x8192, .i32⟩
  | .hbm, ⟨30, _⟩ => ⟨S2704x8192, .i32⟩
  | .hbm, ⟨31, _⟩ => ⟨S2704x8192, .i1⟩
  | .hbm, ⟨32, _⟩ => ⟨S2704x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S2704x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel3.lean ====
abbrev S1600x64 : Shape := ⟨2, ![1600, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S1600 : Shape := ⟨1, ![1600]⟩
abbrev S1600x1 : Shape := ⟨2, ![1600, 1]⟩
abbrev S400x64 : Shape := ⟨2, ![400, 64]⟩
abbrev S400x1 : Shape := ⟨2, ![400, 1]⟩
abbrev S400x8192 : Shape := ⟨2, ![400, 8192]⟩
abbrev S400 : Shape := ⟨1, ![400]⟩

abbrev nBuf : Space → Nat
  | .hbm => 13
  | .vmem => 10
  | .smem => 0
  | _ => 0

abbrev bufTy : (tb : Table) → Fin (tcTables nBuf tb) → BufTy
  | .hbm, ⟨0, _⟩ => ⟨S1600x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S1600x64, .f32⟩
  | .hbm, ⟨8, _⟩ => ⟨S_, .f32⟩
  | .hbm, ⟨9, _⟩ => ⟨S1600, .f32⟩
  | .hbm, ⟨10, _⟩ => ⟨S1600x1, .f32⟩
  | .hbm, ⟨11, _⟩ => ⟨S1600x64, .f32⟩
  | .hbm, ⟨12, _⟩ => ⟨S1x8192, .f32⟩
  | .local _ .vmem, ⟨0, _⟩ => ⟨S400x64, .f32⟩
  | .local _ .vmem, ⟨1, _⟩ => ⟨S400x64, .f32⟩
  | .local _ .vmem, ⟨2, _⟩ => ⟨S400x1, .f32⟩
  | .local _ .vmem, ⟨3, _⟩ => ⟨S400x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S400x64, .f32⟩
  | .local _ .vmem, ⟨8, _⟩ => ⟨S400x64, .f32⟩
  | .local _ .vmem, ⟨9, _⟩ => ⟨S1x8192, .f32⟩
  | _, _ => ⟨S1600x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel3Ideal.lean ====
abbrev S1600x64 : Shape := ⟨2, ![1600, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S1600 : Shape := ⟨1, ![1600]⟩
abbrev S1600x1 : Shape := ⟨2, ![1600, 1]⟩
abbrev S400x64 : Shape := ⟨2, ![400, 64]⟩
abbrev S400x1 : Shape := ⟨2, ![400, 1]⟩
abbrev S400x8192 : Shape := ⟨2, ![400, 8192]⟩
abbrev S400 : Shape := ⟨1, ![400]⟩

abbrev nBuf : Space → Nat
  | .hbm => 13
  | .vmem => 10
  | .smem => 0
  | _ => 0

abbrev bufTy : (tb : Table) → Fin (tcTables nBuf tb) → BufTy
  | .hbm, ⟨0, _⟩ => ⟨S1600x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S1600x64, .f32⟩
  | .hbm, ⟨8, _⟩ => ⟨S_, .f32⟩
  | .hbm, ⟨9, _⟩ => ⟨S1600, .f32⟩
  | .hbm, ⟨10, _⟩ => ⟨S1600x1, .f32⟩
  | .hbm, ⟨11, _⟩ => ⟨S1600x64, .f32⟩
  | .hbm, ⟨12, _⟩ => ⟨S1x8192, .f32⟩
  | .local _ .vmem, ⟨0, _⟩ => ⟨S400x64, .f32⟩
  | .local _ .vmem, ⟨1, _⟩ => ⟨S400x64, .f32⟩
  | .local _ .vmem, ⟨2, _⟩ => ⟨S400x1, .f32⟩
  | .local _ .vmem, ⟨3, _⟩ => ⟨S400x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S400x64, .f32⟩
  | .local _ .vmem, ⟨8, _⟩ => ⟨S400x64, .f32⟩
  | .local _ .vmem, ⟨9, _⟩ => ⟨S1x8192, .f32⟩
  | _, _ => ⟨S1600x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![4], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S400x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference3Ideal.lean ====
abbrev S1600x64 : Shape := ⟨2, ![1600, 64]⟩
abbrev S8192x64 : Shape := ⟨2, ![8192, 64]⟩
abbrev S_ : Shape := ⟨0, ![]⟩
abbrev S8192 : Shape := ⟨1, ![8192]⟩
abbrev S1600 : Shape := ⟨1, ![1600]⟩
abbrev S1600x1 : Shape := ⟨2, ![1600, 1]⟩
abbrev S1x8192 : Shape := ⟨2, ![1, 8192]⟩
abbrev S1600x8192 : Shape := ⟨2, ![1600, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S1600x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S1600x64, .f32⟩
  | .hbm, ⟨6, _⟩ => ⟨S_, .f32⟩
  | .hbm, ⟨7, _⟩ => ⟨S1600, .f32⟩
  | .hbm, ⟨8, _⟩ => ⟨S1600x1, .f32⟩
  | .hbm, ⟨9, _⟩ => ⟨S1x8192, .f32⟩
  | .hbm, ⟨10, _⟩ => ⟨S1600x8192, .f32⟩
  | .hbm, ⟨11, _⟩ => ⟨S1600x8192, .f32⟩
  | .hbm, ⟨12, _⟩ => ⟨S1600x8192, .f32⟩
  | .hbm, ⟨13, _⟩ => ⟨S64x8192, .f32⟩
  | .hbm, ⟨14, _⟩ => ⟨S1600x8192, .f32⟩
  | .hbm, ⟨15, _⟩ => ⟨S_, .f32⟩
  | .hbm, ⟨16, _⟩ => ⟨S1600x8192, .f32⟩
  | .hbm, ⟨17, _⟩ => ⟨S1600x8192, .f32⟩
  | .hbm, ⟨18, _⟩ => ⟨S1600x8192, .f32⟩
  | .hbm, ⟨19, _⟩ => ⟨S1600x8192, .i32⟩
  | .hbm, ⟨20, _⟩ => ⟨S_, .f32⟩
  | .hbm, ⟨21, _⟩ => ⟨S_, .i32⟩
  | .hbm, ⟨22, _⟩ => ⟨S1600, .f32⟩
  | .hbm, ⟨23, _⟩ => ⟨S1600, .i32⟩
  | .hbm, ⟨24, _⟩ => ⟨S1600x1, .i32⟩
  | .hbm, ⟨25, _⟩ => ⟨S1600x64, .f32⟩
  | .hbm, ⟨26, _⟩ => ⟨S1600x1, .i32⟩
  | .hbm, ⟨27, _⟩ => ⟨S8192, .i32⟩
  | .hbm, ⟨28, _⟩ => ⟨S1x8192, .i32⟩
  | .hbm, ⟨29, _⟩ => ⟨S1600x8192, .i32⟩
  | .hbm, ⟨30, _⟩ => ⟨S1600x8192, .i32⟩
  | .hbm, ⟨31, _⟩ => ⟨S1600x8192, .i1⟩
  | .hbm, ⟨32, _⟩ => ⟨S1600x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S1600x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel4.lean ====
abbrev S1024x64 : Shape := ⟨2, ![1024, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S1024 : Shape := ⟨1, ![1024]⟩
abbrev S1024x1 : Shape := ⟨2, ![1024, 1]⟩
abbrev S512x64 : Shape := ⟨2, ![512, 64]⟩
abbrev S512x1 : Shape := ⟨2, ![512, 1]⟩
abbrev S512x8192 : Shape := ⟨2, ![512, 8192]⟩
abbrev S512 : Shape := ⟨1, ![512]⟩

abbrev nBuf : Space → Nat
  | .hbm => 13
  | .vmem => 10
  | .smem => 0
  | _ => 0

abbrev bufTy : (tb : Table) → Fin (tcTables nBuf tb) → BufTy
  | .hbm, ⟨0, _⟩ => ⟨S1024x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x64, .f32⟩
  | .hbm, ⟨12, _⟩ => ⟨S1x8192, .f32⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S512x64, .f32⟩
  | .local _ .vmem, ⟨8, _⟩ => ⟨S512x64, .f32⟩
  | .local _ .vmem, ⟨9, _⟩ => ⟨S1x8192, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel4Ideal.lean ====
abbrev S1024x64 : Shape := ⟨2, ![1024, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S1024 : Shape := ⟨1, ![1024]⟩
abbrev S1024x1 : Shape := ⟨2, ![1024, 1]⟩
abbrev S512x64 : Shape := ⟨2, ![512, 64]⟩
abbrev S512x1 : Shape := ⟨2, ![512, 1]⟩
abbrev S512x8192 : Shape := ⟨2, ![512, 8192]⟩
abbrev S512 : Shape := ⟨1, ![512]⟩

abbrev nBuf : Space → Nat
  | .hbm => 13
  | .vmem => 10
  | .smem => 0
  | _ => 0

abbrev bufTy : (tb : Table) → Fin (tcTables nBuf tb) → BufTy
  | .hbm, ⟨0, _⟩ => ⟨S1024x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S1024x64, .f32⟩
  | .hbm, ⟨8, _⟩ => ⟨S_, .f32⟩
  | .hbm, ⟨9, _⟩ => ⟨S1024, .f32⟩
  | .hbm, ⟨10, _⟩ => ⟨S1024x1, .f32⟩
  | .hbm, ⟨11, _⟩ => ⟨S1024x64, .f32⟩
  | .hbm, ⟨12, _⟩ => ⟨S1x8192, .f32⟩
  | .local _ .vmem, ⟨0, _⟩ => ⟨S512x64, .f32⟩
  | .local _ .vmem, ⟨1, _⟩ => ⟨S512x64, .f32⟩
  | .local _ .vmem, ⟨2, _⟩ => ⟨S512x1, .f32⟩
  | .local _ .vmem, ⟨3, _⟩ => ⟨S512x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S512x64, .f32⟩
  | .local _ .vmem, ⟨8, _⟩ => ⟨S512x64, .f32⟩
  | .local _ .vmem, ⟨9, _⟩ => ⟨S1x8192, .f32⟩
  | _, _ => ⟨S1024x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference4Ideal.lean ====
abbrev S1024x64 : Shape := ⟨2, ![1024, 64]⟩
abbrev S8192x64 : Shape := ⟨2, ![8192, 64]⟩
abbrev S_ : Shape := ⟨0, ![]⟩
abbrev S8192 : Shape := ⟨1, ![8192]⟩
abbrev S1024 : Shape := ⟨1, ![1024]⟩
abbrev S1024x1 : Shape := ⟨2, ![1024, 1]⟩
abbrev S1x8192 : Shape := ⟨2, ![1, 8192]⟩
abbrev S1024x8192 : Shape := ⟨2, ![1024, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S1024x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S1024x64, .f32⟩
  | .hbm, ⟨6, _⟩ => ⟨S_, .f32⟩
  | .hbm, ⟨7, _⟩ => ⟨S1024, .f32⟩
  | .hbm, ⟨8, _⟩ => ⟨S1024x1, .f32⟩
  | .hbm, ⟨9, _⟩ => ⟨S1x8192, .f32⟩
  | .hbm, ⟨10, _⟩ => ⟨S1024x8192, .f32⟩
  | .hbm, ⟨11, _⟩ => ⟨S1024x8192, .f32⟩
  | .hbm, ⟨12, _⟩ => ⟨S1024x8192, .f32⟩
  | .hbm, ⟨13, _⟩ => ⟨S64x8192, .f32⟩
  | .hbm, ⟨14, _⟩ => ⟨S1024x8192, .f32⟩
  | .hbm, ⟨15, _⟩ => ⟨S_, .f32⟩
  | .hbm, ⟨16, _⟩ => ⟨S1024x8192, .f32⟩
  | .hbm, ⟨17, _⟩ => ⟨S1024x8192, .f32⟩
  | .hbm, ⟨18, _⟩ => ⟨S1024x8192, .f32⟩
  | .hbm, ⟨19, _⟩ => ⟨S1024x8192, .i32⟩
  | .hbm, ⟨20, _⟩ => ⟨S_, .f32⟩
  | .hbm, ⟨21, _⟩ => ⟨S_, .i32⟩
  | .hbm, ⟨22, _⟩ => ⟨S1024, .f32⟩
  | .hbm, ⟨23, _⟩ => ⟨S1024, .i32⟩
  | .hbm, ⟨24, _⟩ => ⟨S1024x1, .i32⟩
  | .hbm, ⟨25, _⟩ => ⟨S1024x64, .f32⟩
  | .hbm, ⟨26, _⟩ => ⟨S1024x1, .i32⟩
  | .hbm, ⟨27, _⟩ => ⟨S8192, .i32⟩
  | .hbm, ⟨28, _⟩ => ⟨S1x8192, .i32⟩
  | .hbm, ⟨29, _⟩ => ⟨S1024x8192, .i32⟩
  | .hbm, ⟨30, _⟩ => ⟨S1024x8192, .i32⟩
  | .hbm, ⟨31, _⟩ => ⟨S1024x8192, .i1⟩
  | .hbm, ⟨32, _⟩ => ⟨S1024x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S1024x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel5.lean ====
abbrev S576x64 : Shape := ⟨2, ![576, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S576 : Shape := ⟨1, ![576]⟩
abbrev S576x1 : Shape := ⟨2, ![576, 1]⟩
abbrev S288x64 : Shape := ⟨2, ![288, 64]⟩
abbrev S288x1 : Shape := ⟨2, ![288, 1]⟩
abbrev S288x8192 : Shape := ⟨2, ![288, 8192]⟩
abbrev S288 : Shape := ⟨1, ![288]⟩

abbrev nBuf : Space → Nat
  | .hbm => 13
  | .vmem => 10
  | .smem => 0
  | _ => 0

abbrev bufTy : (tb : Table) → Fin (tcTables nBuf tb) → BufTy
  | .hbm, ⟨0, _⟩ => ⟨S576x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S576x64, .f32⟩
  | .hbm, ⟨8, _⟩ => ⟨S_, .f32⟩
  | .hbm, ⟨9, _⟩ => ⟨S576, .f32⟩
  | .hbm, ⟨10, _⟩ => ⟨S576x1, .f32⟩
  | .hbm, ⟨11, _⟩ => ⟨S576x64, .f32⟩
  | .hbm, ⟨12, _⟩ => ⟨S1x8192, .f32⟩
  | .local _ .vmem, ⟨0, _⟩ => ⟨S288x64, .f32⟩
  | .local _ .vmem, ⟨1, _⟩ => ⟨S288x64, .f32⟩
  | .local _ .vmem, ⟨2, _⟩ => ⟨S288x1, .f32⟩
  | .local _ .vmem, ⟨3, _⟩ => ⟨S288x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S288x64, .f32⟩
  | .local _ .vmem, ⟨8, _⟩ => ⟨S288x64, .f32⟩
  | .local _ .vmem, ⟨9, _⟩ => ⟨S1x8192, .f32⟩
  | _, _ => ⟨S576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S288x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S288x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel5Ideal.lean ====
abbrev S576x64 : Shape := ⟨2, ![576, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S576 : Shape := ⟨1, ![576]⟩
abbrev S576x1 : Shape := ⟨2, ![576, 1]⟩
abbrev S288x64 : Shape := ⟨2, ![288, 64]⟩
abbrev S288x1 : Shape := ⟨2, ![288, 1]⟩
abbrev S288x8192 : Shape := ⟨2, ![288, 8192]⟩
abbrev S288 : Shape := ⟨1, ![288]⟩

abbrev nBuf : Space → Nat
  | .hbm => 13
  | .vmem => 10
  | .smem => 0
  | _ => 0

abbrev bufTy : (tb : Table) → Fin (tcTables nBuf tb) → BufTy
  | .hbm, ⟨0, _⟩ => ⟨S576x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S576x64, .f32⟩
  | .hbm, ⟨8, _⟩ => ⟨S_, .f32⟩
  | .hbm, ⟨9, _⟩ => ⟨S576, .f32⟩
  | .hbm, ⟨10, _⟩ => ⟨S576x1, .f32⟩
  | .hbm, ⟨11, _⟩ => ⟨S576x64, .f32⟩
  | .hbm, ⟨12, _⟩ => ⟨S1x8192, .f32⟩
  | .local _ .vmem, ⟨0, _⟩ => ⟨S288x64, .f32⟩
  | .local _ .vmem, ⟨1, _⟩ => ⟨S288x64, .f32⟩
  | .local _ .vmem, ⟨2, _⟩ => ⟨S288x1, .f32⟩
  | .local _ .vmem, ⟨3, _⟩ => ⟨S288x1, .f32⟩
  | .local _ .vmem, ⟨4, _⟩ => ⟨S64x8192, .f32⟩
  | .local _ .vmem, ⟨5, _⟩ => ⟨S1x8192, .f32⟩
  | .local _ .vmem, ⟨6, _⟩ => ⟨S8192x64, .f32⟩
  | .local _ .vmem, ⟨7, _⟩ => ⟨S288x64, .f32⟩
  | .local _ .vmem, ⟨8, _⟩ => ⟨S288x64, .f32⟩
  | .local _ .vmem, ⟨9, _⟩ => ⟨S1x8192, .f32⟩
  | _, _ => ⟨S576x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9

abbrev nD : Nat := 1
abbrev τ : Topo := Topo.v7x

variable {F : FTy → Type} [FloatOps F]

abbrev grid0 : Pipeline.Grid := ⟨1, ![2], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S288x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S288x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S288x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference5Ideal.lean ====
abbrev S576x64 : Shape := ⟨2, ![576, 64]⟩
abbrev S8192x64 : Shape := ⟨2, ![8192, 64]⟩
abbrev S_ : Shape := ⟨0, ![]⟩
abbrev S8192 : Shape := ⟨1, ![8192]⟩
abbrev S576 : Shape := ⟨1, ![576]⟩
abbrev S576x1 : Shape := ⟨2, ![576, 1]⟩
abbrev S1x8192 : Shape := ⟨2, ![1, 8192]⟩
abbrev S576x8192 : Shape := ⟨2, ![576, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S576x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S576x64, .f32⟩
  | .hbm, ⟨6, _⟩ => ⟨S_, .f32⟩
  | .hbm, ⟨7, _⟩ => ⟨S576, .f32⟩
  | .hbm, ⟨8, _⟩ => ⟨S576x1, .f32⟩
  | .hbm, ⟨9, _⟩ => ⟨S1x8192, .f32⟩
  | .hbm, ⟨10, _⟩ => ⟨S576x8192, .f32⟩
  | .hbm, ⟨11, _⟩ => ⟨S576x8192, .f32⟩
  | .hbm, ⟨12, _⟩ => ⟨S576x8192, .f32⟩
  | .hbm, ⟨13, _⟩ => ⟨S64x8192, .f32⟩
  | .hbm, ⟨14, _⟩ => ⟨S576x8192, .f32⟩
  | .hbm, ⟨15, _⟩ => ⟨S_, .f32⟩
  | .hbm, ⟨16, _⟩ => ⟨S576x8192, .f32⟩
  | .hbm, ⟨17, _⟩ => ⟨S576x8192, .f32⟩
  | .hbm, ⟨18, _⟩ => ⟨S576x8192, .f32⟩
  | .hbm, ⟨19, _⟩ => ⟨S576x8192, .i32⟩
  | .hbm, ⟨20, _⟩ => ⟨S_, .f32⟩
  | .hbm, ⟨21, _⟩ => ⟨S_, .i32⟩
  | .hbm, ⟨22, _⟩ => ⟨S576, .f32⟩
  | .hbm, ⟨23, _⟩ => ⟨S576, .i32⟩
  | .hbm, ⟨24, _⟩ => ⟨S576x1, .i32⟩
  | .hbm, ⟨25, _⟩ => ⟨S576x64, .f32⟩
  | .hbm, ⟨26, _⟩ => ⟨S576x1, .i32⟩
  | .hbm, ⟨27, _⟩ => ⟨S8192, .i32⟩
  | .hbm, ⟨28, _⟩ => ⟨S1x8192, .i32⟩
  | .hbm, ⟨29, _⟩ => ⟨S576x8192, .i32⟩
  | .hbm, ⟨30, _⟩ => ⟨S576x8192, .i32⟩
  | .hbm, ⟨31, _⟩ => ⟨S576x8192, .i1⟩
  | .hbm, ⟨32, _⟩ => ⟨S576x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S576x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel6.lean ====
abbrev S400x64 : Shape := ⟨2, ![400, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S400 : Shape := ⟨1, ![400]⟩
abbrev S400x1 : Shape := ⟨2, ![400, 1]⟩
abbrev S400x8192 : Shape := ⟨2, ![400, 8192]⟩

abbrev nBuf : Space → Nat
  | .hbm => 13
  | .vmem => 7
  | .smem => 0
  | _ => 0

abbrev bufTy : (tb : Table) → Fin (tcTables nBuf tb) → BufTy
  | .hbm, ⟨0, _⟩ => ⟨S400x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S400x64, .f32⟩
  | .hbm, ⟨8, _⟩ => ⟨S_, .f32⟩
  | .hbm, ⟨9, _⟩ => ⟨S400, .f32⟩
  | .hbm, ⟨10, _⟩ => ⟨S400x1, .f32⟩
  | .hbm, ⟨11, _⟩ => ⟨S400x64, .f32⟩
  | .hbm, ⟨12, _⟩ => ⟨S1x8192, .f32⟩
  | .local _ .vmem, ⟨0, _⟩ => ⟨S400x64, .f32⟩
  | .local _ .vmem, ⟨1, _⟩ => ⟨S400x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S400x64, .f32⟩
  | .local _ .vmem, ⟨6, _⟩ => ⟨S1x8192, .f32⟩
  | _, _ => ⟨S400x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S400x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S400x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S400x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel6Ideal.lean ====
abbrev S400x64 : Shape := ⟨2, ![400, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S400 : Shape := ⟨1, ![400]⟩
abbrev S400x1 : Shape := ⟨2, ![400, 1]⟩
abbrev S400x8192 : Shape := ⟨2, ![400, 8192]⟩

abbrev nBuf : Space → Nat
  | .hbm => 13
  | .vmem => 7
  | .smem => 0
  | _ => 0

abbrev bufTy : (tb : Table) → Fin (tcTables nBuf tb) → BufTy
  | .hbm, ⟨0, _⟩ => ⟨S400x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S400x64, .f32⟩
  | .hbm, ⟨8, _⟩ => ⟨S_, .f32⟩
  | .hbm, ⟨9, _⟩ => ⟨S400, .f32⟩
  | .hbm, ⟨10, _⟩ => ⟨S400x1, .f32⟩
  | .hbm, ⟨11, _⟩ => ⟨S400x64, .f32⟩
  | .hbm, ⟨12, _⟩ => ⟨S1x8192, .f32⟩
  | .local _ .vmem, ⟨0, _⟩ => ⟨S400x64, .f32⟩
  | .local _ .vmem, ⟨1, _⟩ => ⟨S400x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S400x64, .f32⟩
  | .local _ .vmem, ⟨6, _⟩ => ⟨S1x8192, .f32⟩
  | _, _ => ⟨S400x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S400x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S400x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S400x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference6Ideal.lean ====
abbrev S400x64 : Shape := ⟨2, ![400, 64]⟩
abbrev S8192x64 : Shape := ⟨2, ![8192, 64]⟩
abbrev S_ : Shape := ⟨0, ![]⟩
abbrev S8192 : Shape := ⟨1, ![8192]⟩
abbrev S400 : Shape := ⟨1, ![400]⟩
abbrev S400x1 : Shape := ⟨2, ![400, 1]⟩
abbrev S1x8192 : Shape := ⟨2, ![1, 8192]⟩
abbrev S400x8192 : Shape := ⟨2, ![400, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S400x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S400x64, .f32⟩
  | .hbm, ⟨6, _⟩ => ⟨S_, .f32⟩
  | .hbm, ⟨7, _⟩ => ⟨S400, .f32⟩
  | .hbm, ⟨8, _⟩ => ⟨S400x1, .f32⟩
  | .hbm, ⟨9, _⟩ => ⟨S1x8192, .f32⟩
  | .hbm, ⟨10, _⟩ => ⟨S400x8192, .f32⟩
  | .hbm, ⟨11, _⟩ => ⟨S400x8192, .f32⟩
  | .hbm, ⟨12, _⟩ => ⟨S400x8192, .f32⟩
  | .hbm, ⟨13, _⟩ => ⟨S64x8192, .f32⟩
  | .hbm, ⟨14, _⟩ => ⟨S400x8192, .f32⟩
  | .hbm, ⟨15, _⟩ => ⟨S_, .f32⟩
  | .hbm, ⟨16, _⟩ => ⟨S400x8192, .f32⟩
  | .hbm, ⟨17, _⟩ => ⟨S400x8192, .f32⟩
  | .hbm, ⟨18, _⟩ => ⟨S400x8192, .f32⟩
  | .hbm, ⟨19, _⟩ => ⟨S400x8192, .i32⟩
  | .hbm, ⟨20, _⟩ => ⟨S_, .f32⟩
  | .hbm, ⟨21, _⟩ => ⟨S_, .i32⟩
  | .hbm, ⟨22, _⟩ => ⟨S400, .f32⟩
  | .hbm, ⟨23, _⟩ => ⟨S400, .i32⟩
  | .hbm, ⟨24, _⟩ => ⟨S400x1, .i32⟩
  | .hbm, ⟨25, _⟩ => ⟨S400x64, .f32⟩
  | .hbm, ⟨26, _⟩ => ⟨S400x1, .i32⟩
  | .hbm, ⟨27, _⟩ => ⟨S8192, .i32⟩
  | .hbm, ⟨28, _⟩ => ⟨S1x8192, .i32⟩
  | .hbm, ⟨29, _⟩ => ⟨S400x8192, .i32⟩
  | .hbm, ⟨30, _⟩ => ⟨S400x8192, .i32⟩
  | .hbm, ⟨31, _⟩ => ⟨S400x8192, .i1⟩
  | .hbm, ⟨32, _⟩ => ⟨S400x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S400x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel7.lean ====
abbrev S256x64 : Shape := ⟨2, ![256, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S256 : Shape := ⟨1, ![256]⟩
abbrev S256x1 : Shape := ⟨2, ![256, 1]⟩
abbrev S256x8192 : Shape := ⟨2, ![256, 8192]⟩

abbrev nBuf : Space → Nat
  | .hbm => 13
  | .vmem => 7
  | .smem => 0
  | _ => 0

abbrev bufTy : (tb : Table) → Fin (tcTables nBuf tb) → BufTy
  | .hbm, ⟨0, _⟩ => ⟨S256x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S256x64, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x64, .f32⟩
  | .hbm, ⟨12, _⟩ => ⟨S1x8192, .f32⟩
  | .local _ .vmem, ⟨0, _⟩ => ⟨S256x64, .f32⟩
  | .local _ .vmem, ⟨1, _⟩ => ⟨S256x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S256x64, .f32⟩
  | .local _ .vmem, ⟨6, _⟩ => ⟨S1x8192, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel7Ideal.lean ====
abbrev S256x64 : Shape := ⟨2, ![256, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S256 : Shape := ⟨1, ![256]⟩
abbrev S256x1 : Shape := ⟨2, ![256, 1]⟩
abbrev S256x8192 : Shape := ⟨2, ![256, 8192]⟩

abbrev nBuf : Space → Nat
  | .hbm => 13
  | .vmem => 7
  | .smem => 0
  | _ => 0

abbrev bufTy : (tb : Table) → Fin (tcTables nBuf tb) → BufTy
  | .hbm, ⟨0, _⟩ => ⟨S256x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S256x64, .f32⟩
  | .hbm, ⟨8, _⟩ => ⟨S_, .f32⟩
  | .hbm, ⟨9, _⟩ => ⟨S256, .f32⟩
  | .hbm, ⟨10, _⟩ => ⟨S256x1, .f32⟩
  | .hbm, ⟨11, _⟩ => ⟨S256x64, .f32⟩
  | .hbm, ⟨12, _⟩ => ⟨S1x8192, .f32⟩
  | .local _ .vmem, ⟨0, _⟩ => ⟨S256x64, .f32⟩
  | .local _ .vmem, ⟨1, _⟩ => ⟨S256x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S256x64, .f32⟩
  | .local _ .vmem, ⟨6, _⟩ => ⟨S1x8192, .f32⟩
  | _, _ => ⟨S256x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S256x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference7Ideal.lean ====
abbrev S256x64 : Shape := ⟨2, ![256, 64]⟩
abbrev S8192x64 : Shape := ⟨2, ![8192, 64]⟩
abbrev S_ : Shape := ⟨0, ![]⟩
abbrev S8192 : Shape := ⟨1, ![8192]⟩
abbrev S256 : Shape := ⟨1, ![256]⟩
abbrev S256x1 : Shape := ⟨2, ![256, 1]⟩
abbrev S1x8192 : Shape := ⟨2, ![1, 8192]⟩
abbrev S256x8192 : Shape := ⟨2, ![256, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S256x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S256x64, .f32⟩
  | .hbm, ⟨6, _⟩ => ⟨S_, .f32⟩
  | .hbm, ⟨7, _⟩ => ⟨S256, .f32⟩
  | .hbm, ⟨8, _⟩ => ⟨S256x1, .f32⟩
  | .hbm, ⟨9, _⟩ => ⟨S1x8192, .f32⟩
  | .hbm, ⟨10, _⟩ => ⟨S256x8192, .f32⟩
  | .hbm, ⟨11, _⟩ => ⟨S256x8192, .f32⟩
  | .hbm, ⟨12, _⟩ => ⟨S256x8192, .f32⟩
  | .hbm, ⟨13, _⟩ => ⟨S64x8192, .f32⟩
  | .hbm, ⟨14, _⟩ => ⟨S256x8192, .f32⟩
  | .hbm, ⟨15, _⟩ => ⟨S_, .f32⟩
  | .hbm, ⟨16, _⟩ => ⟨S256x8192, .f32⟩
  | .hbm, ⟨17, _⟩ => ⟨S256x8192, .f32⟩
  | .hbm, ⟨18, _⟩ => ⟨S256x8192, .f32⟩
  | .hbm, ⟨19, _⟩ => ⟨S256x8192, .i32⟩
  | .hbm, ⟨20, _⟩ => ⟨S_, .f32⟩
  | .hbm, ⟨21, _⟩ => ⟨S_, .i32⟩
  | .hbm, ⟨22, _⟩ => ⟨S256, .f32⟩
  | .hbm, ⟨23, _⟩ => ⟨S256, .i32⟩
  | .hbm, ⟨24, _⟩ => ⟨S256x1, .i32⟩
  | .hbm, ⟨25, _⟩ => ⟨S256x64, .f32⟩
  | .hbm, ⟨26, _⟩ => ⟨S256x1, .i32⟩
  | .hbm, ⟨27, _⟩ => ⟨S8192, .i32⟩
  | .hbm, ⟨28, _⟩ => ⟨S1x8192, .i32⟩
  | .hbm, ⟨29, _⟩ => ⟨S256x8192, .i32⟩
  | .hbm, ⟨30, _⟩ => ⟨S256x8192, .i32⟩
  | .hbm, ⟨31, _⟩ => ⟨S256x8192, .i1⟩
  | .hbm, ⟨32, _⟩ => ⟨S256x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S256x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel8.lean ====
abbrev S144x64 : Shape := ⟨2, ![144, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S144 : Shape := ⟨1, ![144]⟩
abbrev S144x1 : Shape := ⟨2, ![144, 1]⟩
abbrev S144x8192 : Shape := ⟨2, ![144, 8192]⟩

abbrev nBuf : Space → Nat
  | .hbm => 13
  | .vmem => 7
  | .smem => 0
  | _ => 0

abbrev bufTy : (tb : Table) → Fin (tcTables nBuf tb) → BufTy
  | .hbm, ⟨0, _⟩ => ⟨S144x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S144x64, .f32⟩
  | .hbm, ⟨8, _⟩ => ⟨S_, .f32⟩
  | .hbm, ⟨9, _⟩ => ⟨S144, .f32⟩
  | .hbm, ⟨10, _⟩ => ⟨S144x1, .f32⟩
  | .hbm, ⟨11, _⟩ => ⟨S144x64, .f32⟩
  | .hbm, ⟨12, _⟩ => ⟨S1x8192, .f32⟩
  | .local _ .vmem, ⟨0, _⟩ => ⟨S144x64, .f32⟩
  | .local _ .vmem, ⟨1, _⟩ => ⟨S144x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S144x64, .f32⟩
  | .local _ .vmem, ⟨6, _⟩ => ⟨S1x8192, .f32⟩
  | _, _ => ⟨S144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S144x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel8Ideal.lean ====
abbrev S144x64 : Shape := ⟨2, ![144, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S144 : Shape := ⟨1, ![144]⟩
abbrev S144x1 : Shape := ⟨2, ![144, 1]⟩
abbrev S144x8192 : Shape := ⟨2, ![144, 8192]⟩

abbrev nBuf : Space → Nat
  | .hbm => 13
  | .vmem => 7
  | .smem => 0
  | _ => 0

abbrev bufTy : (tb : Table) → Fin (tcTables nBuf tb) → BufTy
  | .hbm, ⟨0, _⟩ => ⟨S144x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S144x64, .f32⟩
  | .hbm, ⟨8, _⟩ => ⟨S_, .f32⟩
  | .hbm, ⟨9, _⟩ => ⟨S144, .f32⟩
  | .hbm, ⟨10, _⟩ => ⟨S144x1, .f32⟩
  | .hbm, ⟨11, _⟩ => ⟨S144x64, .f32⟩
  | .hbm, ⟨12, _⟩ => ⟨S1x8192, .f32⟩
  | .local _ .vmem, ⟨0, _⟩ => ⟨S144x64, .f32⟩
  | .local _ .vmem, ⟨1, _⟩ => ⟨S144x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S144x64, .f32⟩
  | .local _ .vmem, ⟨6, _⟩ => ⟨S1x8192, .f32⟩
  | _, _ => ⟨S144x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S144x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S144x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S144x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference8Ideal.lean ====
abbrev S144x64 : Shape := ⟨2, ![144, 64]⟩
abbrev S8192x64 : Shape := ⟨2, ![8192, 64]⟩
abbrev S_ : Shape := ⟨0, ![]⟩
abbrev S8192 : Shape := ⟨1, ![8192]⟩
abbrev S144 : Shape := ⟨1, ![144]⟩
abbrev S144x1 : Shape := ⟨2, ![144, 1]⟩
abbrev S1x8192 : Shape := ⟨2, ![1, 8192]⟩
abbrev S144x8192 : Shape := ⟨2, ![144, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S144x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S144x64, .f32⟩
  | .hbm, ⟨6, _⟩ => ⟨S_, .f32⟩
  | .hbm, ⟨7, _⟩ => ⟨S144, .f32⟩
  | .hbm, ⟨8, _⟩ => ⟨S144x1, .f32⟩
  | .hbm, ⟨9, _⟩ => ⟨S1x8192, .f32⟩
  | .hbm, ⟨10, _⟩ => ⟨S144x8192, .f32⟩
  | .hbm, ⟨11, _⟩ => ⟨S144x8192, .f32⟩
  | .hbm, ⟨12, _⟩ => ⟨S144x8192, .f32⟩
  | .hbm, ⟨13, _⟩ => ⟨S64x8192, .f32⟩
  | .hbm, ⟨14, _⟩ => ⟨S144x8192, .f32⟩
  | .hbm, ⟨15, _⟩ => ⟨S_, .f32⟩
  | .hbm, ⟨16, _⟩ => ⟨S144x8192, .f32⟩
  | .hbm, ⟨17, _⟩ => ⟨S144x8192, .f32⟩
  | .hbm, ⟨18, _⟩ => ⟨S144x8192, .f32⟩
  | .hbm, ⟨19, _⟩ => ⟨S144x8192, .i32⟩
  | .hbm, ⟨20, _⟩ => ⟨S_, .f32⟩
  | .hbm, ⟨21, _⟩ => ⟨S_, .i32⟩
  | .hbm, ⟨22, _⟩ => ⟨S144, .f32⟩
  | .hbm, ⟨23, _⟩ => ⟨S144, .i32⟩
  | .hbm, ⟨24, _⟩ => ⟨S144x1, .i32⟩
  | .hbm, ⟨25, _⟩ => ⟨S144x64, .f32⟩
  | .hbm, ⟨26, _⟩ => ⟨S144x1, .i32⟩
  | .hbm, ⟨27, _⟩ => ⟨S8192, .i32⟩
  | .hbm, ⟨28, _⟩ => ⟨S1x8192, .i32⟩
  | .hbm, ⟨29, _⟩ => ⟨S144x8192, .i32⟩
  | .hbm, ⟨30, _⟩ => ⟨S144x8192, .i32⟩
  | .hbm, ⟨31, _⟩ => ⟨S144x8192, .i1⟩
  | .hbm, ⟨32, _⟩ => ⟨S144x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S144x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel9.lean ====
abbrev S64x64 : Shape := ⟨2, ![64, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S64 : Shape := ⟨1, ![64]⟩
abbrev S64x1 : Shape := ⟨2, ![64, 1]⟩

abbrev nBuf : Space → Nat
  | .hbm => 13
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S64x64, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S64x64, .f32⟩
  | .hbm, ⟨12, _⟩ => ⟨S1x8192, .f32⟩
  | .local _ .vmem, ⟨0, _⟩ => ⟨S64x64, .f32⟩
  | .local _ .vmem, ⟨1, _⟩ => ⟨S64x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S64x64, .f32⟩
  | .local _ .vmem, ⟨6, _⟩ => ⟨S1x8192, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Kernel9Ideal.lean ====
abbrev S64x64 : Shape := ⟨2, ![64, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S64 : Shape := ⟨1, ![64]⟩
abbrev S64x1 : Shape := ⟨2, ![64, 1]⟩

abbrev nBuf : Space → Nat
  | .hbm => 13
  | .vmem => 7
  | .smem => 0
  | _ => 0

abbrev bufTy : (tb : Table) → Fin (tcTables nBuf tb) → BufTy
  | .hbm, ⟨0, _⟩ => ⟨S64x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S64x64, .f32⟩
  | .hbm, ⟨8, _⟩ => ⟨S_, .f32⟩
  | .hbm, ⟨9, _⟩ => ⟨S64, .f32⟩
  | .hbm, ⟨10, _⟩ => ⟨S64x1, .f32⟩
  | .hbm, ⟨11, _⟩ => ⟨S64x64, .f32⟩
  | .hbm, ⟨12, _⟩ => ⟨S1x8192, .f32⟩
  | .local _ .vmem, ⟨0, _⟩ => ⟨S64x64, .f32⟩
  | .local _ .vmem, ⟨1, _⟩ => ⟨S64x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S64x64, .f32⟩
  | .local _ .vmem, ⟨6, _⟩ => ⟨S1x8192, .f32⟩
  | _, _ => ⟨S64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S64x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference9Ideal.lean ====
abbrev S64x64 : Shape := ⟨2, ![64, 64]⟩
abbrev S8192x64 : Shape := ⟨2, ![8192, 64]⟩
abbrev S_ : Shape := ⟨0, ![]⟩
abbrev S8192 : Shape := ⟨1, ![8192]⟩
abbrev S64 : Shape := ⟨1, ![64]⟩
abbrev S64x1 : Shape := ⟨2, ![64, 1]⟩
abbrev S1x8192 : Shape := ⟨2, ![1, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S64x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S64x64, .f32⟩
  | .hbm, ⟨6, _⟩ => ⟨S_, .f32⟩
  | .hbm, ⟨7, _⟩ => ⟨S64, .f32⟩
  | .hbm, ⟨8, _⟩ => ⟨S64x1, .f32⟩
  | .hbm, ⟨9, _⟩ => ⟨S1x8192, .f32⟩
  | .hbm, ⟨10, _⟩ => ⟨S64x8192, .f32⟩
  | .hbm, ⟨11, _⟩ => ⟨S64x8192, .f32⟩
  | .hbm, ⟨12, _⟩ => ⟨S64x8192, .f32⟩
  | .hbm, ⟨13, _⟩ => ⟨S64x8192, .f32⟩
  | .hbm, ⟨14, _⟩ => ⟨S64x8192, .f32⟩
  | .hbm, ⟨15, _⟩ => ⟨S_, .f32⟩
  | .hbm, ⟨16, _⟩ => ⟨S64x8192, .f32⟩
  | .hbm, ⟨17, _⟩ => ⟨S64x8192, .f32⟩
  | .hbm, ⟨18, _⟩ => ⟨S64x8192, .f32⟩
  | .hbm, ⟨19, _⟩ => ⟨S64x8192, .i32⟩
  | .hbm, ⟨20, _⟩ => ⟨S_, .f32⟩
  | .hbm, ⟨21, _⟩ => ⟨S_, .i32⟩
  | .hbm, ⟨22, _⟩ => ⟨S64, .f32⟩
  | .hbm, ⟨23, _⟩ => ⟨S64, .i32⟩
  | .hbm, ⟨24, _⟩ => ⟨S64x1, .i32⟩
  | .hbm, ⟨25, _⟩ => ⟨S64x64, .f32⟩
  | .hbm, ⟨26, _⟩ => ⟨S64x1, .i32⟩
  | .hbm, ⟨27, _⟩ => ⟨S8192, .i32⟩
  | .hbm, ⟨28, _⟩ => ⟨S1x8192, .i32⟩
  | .hbm, ⟨29, _⟩ => ⟨S64x8192, .i32⟩
  | .hbm, ⟨30, _⟩ => ⟨S64x8192, .i32⟩
  | .hbm, ⟨31, _⟩ => ⟨S64x8192, .i1⟩
  | .hbm, ⟨32, _⟩ => ⟨S64x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel10.lean ====
abbrev S16x64 : Shape := ⟨2, ![16, 64]⟩
abbrev S8192x64 : Shape := ⟨2, ![8192, 64]⟩
abbrev S64x8192 : Shape := ⟨2, ![64, 8192]⟩
abbrev S_ : Shape := ⟨0, ![]⟩
abbrev S8192 : Shape := ⟨1, ![8192]⟩
abbrev S1x8192 : Shape := ⟨2, ![1, 8192]⟩
abbrev S16 : Shape := ⟨1, ![16]⟩
abbrev S16x1 : Shape := ⟨2, ![16, 1]⟩
abbrev S16x8192 : Shape := ⟨2, ![16, 8192]⟩

abbrev nBuf : Space → Nat
  | .hbm => 13
  | .vmem => 7
  | .smem => 0
  | _ => 0

abbrev bufTy : (tb : Table) → Fin (tcTables nBuf tb) → BufTy
  | .hbm, ⟨0, _⟩ => ⟨S16x64, .f32⟩
  | .hbm, ⟨1, _⟩ => ⟨S8192x64, .f32⟩
  | .hbm, ⟨2, _⟩ => ⟨S64x8192, .f32⟩
  | .hbm, ⟨3, _⟩ => ⟨S8192x64, .f32⟩
  | .hbm, ⟨4, _⟩ => ⟨S_, .f32⟩
  | .hbm, ⟨5, _⟩ => ⟨S8192, .f32⟩
  | .hbm, ⟨6, _⟩ => ⟨S1x8192, .f32⟩
  | .hbm, ⟨7, _⟩ => ⟨S16x64, .f32⟩
  | .hbm, ⟨8, _⟩ => ⟨S_, .f32⟩
  | .hbm, ⟨9, _⟩ => ⟨S16, .f32⟩
  | .hbm, ⟨10, _⟩ => ⟨S16x1, .f32⟩
  | .hbm, ⟨11, _⟩ => ⟨S16x64, .f32⟩
  | .hbm, ⟨12, _⟩ => ⟨S1x8192, .f32⟩
  | .local _ .vmem, ⟨0, _⟩ => ⟨S16x64, .f32⟩
  | .local _ .vmem, ⟨1, _⟩ => ⟨S16x1, .f32⟩
  | .local _ .vmem, ⟨2, _⟩ => ⟨S64x8192, .f32⟩
  | .local _ .vmem, ⟨3, _⟩ => ⟨S1x8192, .f32⟩
  | .local _ .vmem, ⟨4, _⟩ => ⟨S8192x64, .f32⟩
  | .local _ .vmem, ⟨5, _⟩ => ⟨S16x64, .f32⟩
  | .local _ .vmem, ⟨6, _⟩ => ⟨S1x8192, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7_0 : Ref sig .tc := ⟨.hbm, 11, rfl⟩
abbrev main_v7_1 : Ref sig .tc := ⟨.hbm, 12, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

def k0_cond1 (i : grid0.Coords) : BitVec 1 :=
  let arg0 : BitVec 32 := BitVec.ofNat 32 (i 0).val
  let c0_i32 : BitVec 32 := 0#32
  let v32 : BitVec 1 := Scalar.cmpi .eq arg0 c0_i32
  let v33 : BitVec 32 := Scalar.extui v32
  let c0_i32_16 : BitVec 32 := 0#32
  let v34 : BitVec 1 := Scalar.cmpi .ne v33 c0_i32_16
  v34

def k0_cond2 (i : grid0.Coords) : BitVec 1 :=
  let arg0 : BitVec 32 := BitVec.ofNat 32 (i 0).val
  let c0_i32_17 : BitVec 32 := 0#32
  let v35 : BitVec 1 := Scalar.cmpi .ne arg0 c0_i32_17
  let v36 : BitVec 32 := Scalar.extui v35
  let c0_i32_18 : BitVec 32 := 0#32
  let v37 : BitVec 1 := Scalar.cmpi .ne v36 c0_i32_18
  v37

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S16x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S64x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8192x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== Reference10Ideal.lean ====
abbrev S16x64 : Shape := ⟨2, ![16, 64]⟩
abbrev S8192x64 : Shape := ⟨2, ![8192, 64]⟩
abbrev S_ : Shape := ⟨0, ![]⟩
abbrev S8192 : Shape := ⟨1, ![8192]⟩
abbrev S16 : Shape := ⟨1, ![16]⟩
abbrev S16x1 : Shape := ⟨2, ![16, 1]⟩
abbrev S1x8192 : Shape := ⟨2, ![1, 8192]⟩
abbrev S16x8192 : Shape := ⟨2, ![16, 8192]⟩
abbrev S64x8192 : Shape := ⟨2, ![64, 8192]⟩

abbrev nBuf : Space → Nat
  | .hbm => 36
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S8192x64, .f32⟩
  | .hbm, ⟨2, _⟩ => ⟨S8192x64, .f32⟩
  | .hbm, ⟨3, _⟩ => ⟨S_, .f32⟩
  | .hbm, ⟨4, _⟩ => ⟨S8192, .f32⟩
  | .hbm, ⟨5, _⟩ => ⟨S16x64, .f32⟩
  | .hbm, ⟨6, _⟩ => ⟨S_, .f32⟩
  | .hbm, ⟨7, _⟩ => ⟨S16, .f32⟩
  | .hbm, ⟨8, _⟩ => ⟨S16x1, .f32⟩
  | .hbm, ⟨9, _⟩ => ⟨S1x8192, .f32⟩
  | .hbm, ⟨10, _⟩ => ⟨S16x8192, .f32⟩
  | .hbm, ⟨11, _⟩ => ⟨S16x8192, .f32⟩
  | .hbm, ⟨12, _⟩ => ⟨S16x8192, .f32⟩
  | .hbm, ⟨13, _⟩ => ⟨S64x8192, .f32⟩
  | .hbm, ⟨14, _⟩ => ⟨S16x8192, .f32⟩
  | .hbm, ⟨15, _⟩ => ⟨S_, .f32⟩
  | .hbm, ⟨16, _⟩ => ⟨S16x8192, .f32⟩
  | .hbm, ⟨17, _⟩ => ⟨S16x8192, .f32⟩
  | .hbm, ⟨18, _⟩ => ⟨S16x8192, .f32⟩
  | .hbm, ⟨19, _⟩ => ⟨S16x8192, .i32⟩
  | .hbm, ⟨20, _⟩ => ⟨S_, .f32⟩
  | .hbm, ⟨21, _⟩ => ⟨S_, .i32⟩
  | .hbm, ⟨22, _⟩ => ⟨S16, .f32⟩
  | .hbm, ⟨23, _⟩ => ⟨S16, .i32⟩
  | .hbm, ⟨24, _⟩ => ⟨S16x1, .i32⟩
  | .hbm, ⟨25, _⟩ => ⟨S16x64, .f32⟩
  | .hbm, ⟨26, _⟩ => ⟨S16x1, .i32⟩
  | .hbm, ⟨27, _⟩ => ⟨S8192, .i32⟩
  | .hbm, ⟨28, _⟩ => ⟨S1x8192, .i32⟩
  | .hbm, ⟨29, _⟩ => ⟨S16x8192, .i32⟩
  | .hbm, ⟨30, _⟩ => ⟨S16x8192, .i32⟩
  | .hbm, ⟨31, _⟩ => ⟨S16x8192, .i1⟩
  | .hbm, ⟨32, _⟩ => ⟨S16x8192, .f32⟩
  | .hbm, ⟨33, _⟩ => ⟨S_, .f32⟩
  | .hbm, ⟨34, _⟩ => ⟨S8192, .f32⟩
  | .hbm, ⟨35, _⟩ => ⟨S1x8192, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_cst_0 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_1 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_call0_v0 : Ref sig .tc := ⟨.hbm, 19, rfl⟩
abbrev main_call0_cst : Ref sig .tc := ⟨.hbm, 20, rfl⟩
abbrev main_call0_c : Ref sig .tc := ⟨.hbm, 21, rfl⟩
abbrev main_call0_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_2 : Ref sig .tc := ⟨.hbm, 33, rfl⟩
abbrev main_v24 : Ref sig .tc := ⟨.hbm, 34, rfl⟩
abbrev main_v25 : Ref sig .tc := ⟨.hbm, 35, rfl⟩

abbrev nD : Nat := 1
abbrev τ : Topo := Topo.v7x

variable {F : FTy → Type} [FloatOps F]
-- ==== Kernel11.lean ====
abbrev S4096x64 : Shape := ⟨2, ![4096, 64]⟩
abbrev S4x64x64x3x3 : Shape := ⟨5, ![4, 64, 64, 3, 3]⟩
abbrev S4x64 : Shape := ⟨2, ![4, 64]⟩
abbrev S4x3x3x64x64 : Shape := ⟨5, ![4, 3, 3, 64, 64]⟩
abbrev S1x3x3x64x64 : Shape := ⟨5, ![1, 3, 3, 64, 64]⟩
abbrev S3x3x64x64 : Shape := ⟨4, ![3, 3, 64, 64]⟩
abbrev S1x64 : Shape := ⟨2, ![1, 64]⟩
abbrev S64 : Shape := ⟨1, ![64]⟩
abbrev S1x1 : Shape := ⟨2, ![1, 1]⟩
abbrev S16x16x16x64 : Shape := ⟨4, ![16, 16, 16, 64]⟩
abbrev S16x1x16x64 : Shape := ⟨4, ![16, 1, 16, 64]⟩
abbrev S16x18x1x64 : Shape := ⟨4, ![16, 18, 1, 64]⟩
abbrev S16x18x16x64 : Shape := ⟨4, ![16, 18, 16, 64]⟩
abbrev S16x18x18x64 : Shape := ⟨4, ![16, 18, 18, 64]⟩
abbrev S1x1x64x64 : Shape := ⟨4, ![1, 1, 64, 64]⟩
abbrev S64x64 : Shape := ⟨2, ![64, 64]⟩
abbrev S1x4096x64 : Shape := ⟨3, ![1, 4096, 64]⟩
abbrev S1 : Shape := ⟨1, ![1]⟩
abbrev S1x1x1 : Shape := ⟨3, ![1, 1, 1]⟩

abbrev nBuf : Space → Nat
  | .hbm => 15
  | .vmem => 9
  | .smem => 0
  | _ => 0

abbrev bufTy : (tb : Table) → Fin (tcTables nBuf tb) → BufTy
  | .hbm, ⟨0, _⟩ => ⟨S4096x64, .f32⟩
  | .hbm, ⟨1, _⟩ => ⟨S4x64x64x3x3, .f32⟩
  | .hbm, ⟨2, _⟩ => ⟨S4x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S4x3x3x64x64, .f32⟩
  | .hbm, ⟨7, _⟩ => ⟨S1x3x3x64x64, .f32⟩
  | .hbm, ⟨8, _⟩ => ⟨S3x3x64x64, .f32⟩
  | .hbm, ⟨9, _⟩ => ⟨S1x64, .f32⟩
  | .hbm, ⟨10, _⟩ => ⟨S64, .f32⟩
  | .hbm, ⟨11, _⟩ => ⟨S1x64, .f32⟩
  | .hbm, ⟨12, _⟩ => ⟨S4096x64, .f32⟩
  | .hbm, ⟨13, _⟩ => ⟨S4096x64, .f32⟩
  | .hbm, ⟨14, _⟩ => ⟨S1x1, .f32⟩
  | .local _ .vmem, ⟨0, _⟩ => ⟨S4096x64, .f32⟩
  | .local _ .vmem, ⟨1, _⟩ => ⟨S3x3x64x64, .f32⟩
  | .local _ .vmem, ⟨2, _⟩ => ⟨S1x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S4096x64, .f32⟩
  | .local _ .vmem, ⟨7, _⟩ => ⟨S4096x64, .f32⟩
  | .local _ .vmem, ⟨8, _⟩ => ⟨S1x1, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S4096x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S4096x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference11Ideal.lean ====
abbrev S4096x64 : Shape := ⟨2, ![4096, 64]⟩
abbrev S4x64x64x3x3 : Shape := ⟨5, ![4, 64, 64, 3, 3]⟩
abbrev S4x64 : Shape := ⟨2, ![4, 64]⟩
abbrev S1x64x64x3x3 : Shape := ⟨5, ![1, 64, 64, 3, 3]⟩
abbrev S64x64x3x3 : Shape := ⟨4, ![64, 64, 3, 3]⟩
abbrev S1x64 : Shape := ⟨2, ![1, 64]⟩
abbrev S64 : Shape := ⟨1, ![64]⟩
abbrev S16x16x16x64 : Shape := ⟨4, ![16, 16, 16, 64]⟩
abbrev S_ : Shape := ⟨0, ![]⟩
abbrev S16x18x18x64 : Shape := ⟨4, ![16, 18, 18, 64]⟩
abbrev S1x1x1x64 : Shape := ⟨4, ![1, 1, 1, 64]⟩
abbrev S64x64x1x1 : Shape := ⟨4, ![64, 64, 1, 1]⟩
abbrev S64x64 : Shape := ⟨2, ![64, 64]⟩
abbrev S1x1 : Shape := ⟨2, ![1, 1]⟩

abbrev nBuf : Space → Nat
  | .hbm => 89
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4x64x64x3x3, .f32⟩
  | .hbm, ⟨2, _⟩ => ⟨S4x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S1x64x64x3x3, .f32⟩
  | .hbm, ⟨7, _⟩ => ⟨S64x64x3x3, .f32⟩
  | .hbm, ⟨8, _⟩ => ⟨S1x64, .f32⟩
  | .hbm, ⟨9, _⟩ => ⟨S64, .f32⟩
  | .hbm, ⟨10, _⟩ => ⟨S16x16x16x64, .f32⟩
  | .hbm, ⟨11, _⟩ => ⟨S_, .i32⟩
  | .hbm, ⟨12, _⟩ => ⟨S_, .f32⟩
  | .hbm, ⟨13, _⟩ => ⟨S16x18x18x64, .f32⟩
  | .hbm, ⟨14, _⟩ => ⟨S1x1x1x64, .f32⟩
  | .hbm, ⟨15, _⟩ => ⟨S16x16x16x64, .f32⟩
  | .hbm, ⟨16, _⟩ => ⟨S64x64x1x1, .f32⟩
  | .hbm, ⟨17, _⟩ => ⟨S64x64, .f32⟩
  | .hbm, ⟨18, _⟩ => ⟨S16x16x16x64, .f32⟩
  | .hbm, ⟨19, _⟩ => ⟨S16x16x16x64, .f32⟩
  | .hbm, ⟨20, _⟩ => ⟨S16x16x16x64, .f32⟩
  | .hbm, ⟨21, _⟩ => ⟨S16x16x16x64, .f32⟩
  | .hbm, ⟨22, _⟩ => ⟨S64x64x1x1, .f32⟩
  | .hbm, ⟨23, _⟩ => ⟨S64x64, .f32⟩
  | .hbm, ⟨24, _⟩ => ⟨S16x16x16x64, .f32⟩
  | .hbm, ⟨25, _⟩ => ⟨S16x16x16x64, .f32⟩
  | .hbm, ⟨26, _⟩ => ⟨S16x16x16x64, .f32⟩
  | .hbm, ⟨27, _⟩ => ⟨S64x64x1x1, .f32⟩
  | .hbm, ⟨28, _⟩ => ⟨S64x64, .f32⟩
  | .hbm, ⟨29, _⟩ => ⟨S16x16x16x64, .f32⟩
  | .hbm, ⟨30, _⟩ => ⟨S16x16x16x64, .f32⟩
  | .hbm, ⟨31, _⟩ => ⟨S16x16x16x64, .f32⟩
  | .hbm, ⟨32, _⟩ => ⟨S64x64x1x1, .f32⟩
  | .hbm, ⟨33, _⟩ => ⟨S64x64, .f32⟩
  | .hbm, ⟨34, _⟩ => ⟨S16x16x16x64, .f32⟩
  | .hbm, ⟨35, _⟩ => ⟨S16x16x16x64, .f32⟩
  | .hbm, ⟨36, _⟩ => ⟨S16x16x16x64, .f32⟩
  | .hbm, ⟨37, _⟩ => ⟨S64x64x1x1, .f32⟩
  | .hbm, ⟨38, _⟩ => ⟨S64x64, .f32⟩
  | .hbm, ⟨39, _⟩ => ⟨S16x16x16x64, .f32⟩
  | .hbm, ⟨40, _⟩ => ⟨S16x16x16x64, .f32⟩
  | .hbm, ⟨41, _⟩ => ⟨S16x16x16x64, .f32⟩
  | .hbm, ⟨42, _⟩ => ⟨S64x64x1x1, .f32⟩
  | .hbm, ⟨43, _⟩ => ⟨S64x64, .f32⟩
  | .hbm, ⟨44, _⟩ => ⟨S16x16x16x64, .f32⟩
  | .hbm, ⟨45, _⟩ => ⟨S16x16x16x64, .f32⟩
  | .hbm, ⟨46, _⟩ => ⟨S16x16x16x64, .f32⟩
  | .hbm, ⟨47, _⟩ => ⟨S64x64x1x1, .f32⟩
  | .hbm, ⟨48, _⟩ => ⟨S64x64, .f32⟩
  | .hbm, ⟨49, _⟩ => ⟨S16x16x16x64, .f32⟩
  | .hbm, ⟨50, _⟩ => ⟨S16x16x16x64, .f32⟩
  | .hbm, ⟨51, _⟩ => ⟨S16x16x16x64, .f32⟩
  | .hbm, ⟨52, _⟩ => ⟨S64x64x1x1, .f32⟩
  | .hbm, ⟨53, _⟩ => ⟨S64x64, .f32⟩
  | .hbm, ⟨54, _⟩ => ⟨S16x16x16x64, .f32⟩
  | .hbm, ⟨55, _⟩ => ⟨S16x16x16x64, .f32⟩
  | .hbm, ⟨56, _⟩ => ⟨S16x16x16x64, .f32⟩
  | .hbm, ⟨57, _⟩ => ⟨S64x64x1x1, .f32⟩
  | .hbm, ⟨58, _⟩ => ⟨S64x64, .f32⟩
  | .hbm, ⟨59, _⟩ => ⟨S16x16x16x64, .f32⟩
  | .hbm, ⟨60, _⟩ => ⟨S16x16x16x64, .f32⟩
  | .hbm, ⟨61, _⟩ => ⟨S_, .f32⟩
  | .hbm, ⟨62, _⟩ => ⟨S4096x64, .f32⟩
  | .hbm, ⟨63, _⟩ => ⟨S4096x64, .f32⟩
  | .hbm, ⟨64, _⟩ => ⟨S4096x64, .f32⟩
  | .hbm, ⟨65, _⟩ => ⟨S_, .f32⟩
  | .hbm, ⟨66, _⟩ => ⟨S4096x64, .f32⟩
  | .hbm, ⟨67, _⟩ => ⟨S4096x64, .f32⟩
  | .hbm, ⟨68, _⟩ => ⟨S4096x64, .f32⟩
  | .hbm, ⟨69, _⟩ => ⟨S4096x64, .f32⟩
  | .hbm, ⟨70, _⟩ => ⟨S4096x64, .f32⟩
  | .hbm, ⟨71, _⟩ => ⟨S4096x64, .f32⟩
  | .hbm, ⟨72, _⟩ => ⟨S4096x64, .f32⟩
  | .hbm, ⟨73, _⟩ => ⟨S_, .f32⟩
  | .hbm, ⟨74, _⟩ => ⟨S_, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S4096x64, .f32⟩
  | .hbm, ⟨80, _⟩ => ⟨S4096x64, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S4096x64, .f32⟩
  | .hbm, ⟨87, _⟩ => ⟨S4096x64, .f32⟩
  | .hbm, ⟨88, _⟩ => ⟨S1x1, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c : Ref sig .tc := ⟨.hbm, 11, rfl⟩
abbrev main_call0_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_v41 : Ref sig .tc := ⟨.hbm, 49, rfl⟩
abbrev main_v42 : Ref sig .tc := ⟨.hbm, 50, rfl⟩
abbrev main_v43 : Ref sig .tc := ⟨.hbm, 51, rfl⟩
abbrev main_v44 : Ref sig .tc := ⟨.hbm, 52, rfl⟩
abbrev main_v45 : Ref sig .tc := ⟨.hbm, 53, rfl⟩
abbrev main_v46 : Ref sig .tc := ⟨.hbm, 54, rfl⟩
abbrev main_v47 : Ref sig .tc := ⟨.hbm, 55, rfl⟩
abbrev main_v48 : Ref sig .tc := ⟨.hbm, 56, rfl⟩
abbrev main_v49 : Ref sig .tc := ⟨.hbm, 57, rfl⟩
abbrev main_v50 : Ref sig .tc := ⟨.hbm, 58, rfl⟩
abbrev main_v51 : Ref sig .tc := ⟨.hbm, 59, rfl⟩
abbrev main_v52 : Ref sig .tc := ⟨.hbm, 60, rfl⟩
abbrev main_cst : Ref sig .tc := ⟨.hbm, 61, rfl⟩
abbrev main_v53 : Ref sig .tc := ⟨.hbm, 62, rfl⟩
abbrev main_v54 : Ref sig .tc := ⟨.hbm, 63, rfl⟩
abbrev main_v55 : Ref sig .tc := ⟨.hbm, 64, rfl⟩
abbrev main_cst_0 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_cst_1 : Ref sig .tc := ⟨.hbm, 73, rfl⟩
abbrev main_v63 : Ref sig .tc := ⟨.hbm, 74, rfl⟩
abbrev main_cst_2 : Ref sig .tc := ⟨.hbm, 75, rfl⟩
abbrev main_v64 : Ref sig .tc := ⟨.hbm, 76, rfl⟩
abbrev main_cst_3 : Ref sig .tc := ⟨.hbm, 77, rfl⟩
abbrev main_v65 : Ref sig .tc := ⟨.hbm, 78, rfl⟩
abbrev main_v66 : Ref sig .tc := ⟨.hbm, 79, rfl⟩
abbrev main_v67 : Ref sig .tc := ⟨.hbm, 80, rfl⟩
abbrev main_cst_4 : Ref sig .tc := ⟨.hbm, 81, rfl⟩
abbrev main_v68 : Ref sig .tc := ⟨.hbm, 82, rfl⟩
abbrev main_cst_5 : Ref sig .tc := ⟨.hbm, 83, rfl⟩
abbrev main_v69 : Ref sig .tc := ⟨.hbm, 84, rfl⟩
abbrev main_v70 : Ref sig .tc := ⟨.hbm, 85, rfl⟩
abbrev main_v71 : Ref sig .tc := ⟨.hbm, 86, rfl⟩
abbrev main_v72 : Ref sig .tc := ⟨.hbm, 87, rfl⟩
abbrev main_v73 : Ref sig .tc := ⟨.hbm, 88, rfl⟩

abbrev nD : Nat := 1
abbrev τ : Topo := Topo.v7x

variable {F : FTy → Type} [FloatOps F]
-- ==== Kernel12.lean ====
abbrev S1x8192 : Shape := ⟨2, ![1, 8192]⟩
abbrev S1x1 : Shape := ⟨2, ![1, 1]⟩
abbrev S1x1x8192 : Shape := ⟨3, ![1, 1, 8192]⟩
abbrev S1 : Shape := ⟨1, ![1]⟩
abbrev S1x1x1 : Shape := ⟨3, ![1, 1, 1]⟩

abbrev nBuf : Space → Nat
  | .hbm => 22
  | .vmem => 22
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S1x1, .f32⟩
  | .hbm, ⟨21, _⟩ => ⟨S1x1, .f32⟩
  | .local _ .vmem, ⟨0, _⟩ => ⟨S1x8192, .f32⟩
  | .local _ .vmem, ⟨1, _⟩ => ⟨S1x8192, .f32⟩
  | .local _ .vmem, ⟨2, _⟩ => ⟨S1x8192, .f32⟩
  | .local _ .vmem, ⟨3, _⟩ => ⟨S1x8192, .f32⟩
  | .local _ .vmem, ⟨4, _⟩ => ⟨S1x8192, .f32⟩
  | .local _ .vmem, ⟨5, _⟩ => ⟨S1x8192, .f32⟩
  | .local _ .vmem, ⟨6, _⟩ => ⟨S1x8192, .f32⟩
  | .local _ .vmem, ⟨7, _⟩ => ⟨S1x8192, .f32⟩
  | .local _ .vmem, ⟨8, _⟩ => ⟨S1x8192, .f32⟩
  | .local _ .vmem, ⟨9, _⟩ => ⟨S1x8192, .f32⟩
  | .local _ .vmem, ⟨10, _⟩ => ⟨S1x1, .f32⟩
  | .local _ .vmem, ⟨11, _⟩ => ⟨S1x1, .f32⟩
  | .local _ .vmem, ⟨12, _⟩ => ⟨S1x1, .f32⟩
  | .local _ .vmem, ⟨13, _⟩ => ⟨S1x1, .f32⟩
  | .local _ .vmem, ⟨14, _⟩ => ⟨S1x1, .f32⟩
  | .local _ .vmem, ⟨15, _⟩ => ⟨S1x1, .f32⟩
  | .local _ .vmem, ⟨16, _⟩ => ⟨S1x1, .f32⟩
  | .local _ .vmem, ⟨17, _⟩ => ⟨S1x1, .f32⟩
  | .local _ .vmem, ⟨18, _⟩ => ⟨S1x1, .f32⟩
  | .local _ .vmem, ⟨19, _⟩ => ⟨S1x1, .f32⟩
  | .local _ .vmem, ⟨20, _⟩ => ⟨S1x1, .f32⟩
  | .local _ .vmem, ⟨21, _⟩ => ⟨S1x1, .f32⟩
  | _, _ => ⟨S1x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0_0 : Ref sig .tc := ⟨.hbm, 20, rfl⟩
abbrev main_v0_1 : Ref sig .tc := ⟨.hbm, 21, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc0_stg21_0 : Ref sig .tc := ⟨.vmem, 21, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc0_sem21_0 : DmaSem sig := 21

abbrev nD : Nat := 1
abbrev τ : Topo := Topo.v7x

variable {F : FTy → Type} [FloatOps F]

abbrev grid0 : Pipeline.Grid := .none

abbrev stage0_0 : Fin 1 → Memref sig .tc .vmem S1x8192 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x8192 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x8192 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x8192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x8192 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x8192 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x8192 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x8192 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x8192 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x8192 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S1x1 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S1x1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S1x1 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S1x1 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S1x1 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S1x1 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S1x1 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev stage0_21 : Fin 1 → Memref sig .tc .vmem S1x1 .f32 := fun | 0 => Memref.whole cc0_stg21_0 | ⟨_ + 1, h⟩ => absurd h (Nat.not_lt.2 (Nat.le_add_left _ _))
abbrev sem0_21 : Fin 1 → DmaSem sig := fun | 0 => cc0_sem21_0 | ⟨_ + 1, h⟩ => absurd h (Nat.not_lt.2 (Nat.le_add_left _ _))
-- ==== Reference12Ideal.lean ====
abbrev S1x8192 : Shape := ⟨2, ![1, 8192]⟩
abbrev S1x1 : Shape := ⟨2, ![1, 1]⟩
abbrev S10x8192 : Shape := ⟨2, ![10, 8192]⟩
abbrev S_ : Shape := ⟨0, ![]⟩
abbrev S8192 : Shape := ⟨1, ![8192]⟩
abbrev S10x1 : Shape := ⟨2, ![10, 1]⟩

abbrev nBuf : Space → Nat
  | .hbm => 43
  | .vmem => 0
  | .smem => 0
  | _ => 0

abbrev bufTy : (tb : Table) → Fin (tcTables nBuf tb) → BufTy
  | .hbm, ⟨0, _⟩ => ⟨S1x8192, .f32⟩
  | .hbm, ⟨1, _⟩ => ⟨S1x8192, .f32⟩
  | .hbm, ⟨2, _⟩ => ⟨S1x8192, .f32⟩
  | .hbm, ⟨3, _⟩ => ⟨S1x8192, .f32⟩
  | .hbm, ⟨4, _⟩ => ⟨S1x8192, .f32⟩
  | .hbm, ⟨5, _⟩ => ⟨S1x8192, .f32⟩
  | .hbm, ⟨6, _⟩ => ⟨S1x8192, .f32⟩
  | .hbm, ⟨7, _⟩ => ⟨S1x8192, .f32⟩
  | .hbm, ⟨8, _⟩ => ⟨S1x8192, .f32⟩
  | .hbm, ⟨9, _⟩ => ⟨S1x8192, .f32⟩
  | .hbm, ⟨10, _⟩ => ⟨S1x1, .f32⟩
  | .hbm, ⟨11, _⟩ => ⟨S1x1, .f32⟩
  | .hbm, ⟨12, _⟩ => ⟨S1x1, .f32⟩
  | .hbm, ⟨13, _⟩ => ⟨S1x1, .f32⟩
  | .hbm, ⟨14, _⟩ => ⟨S1x1, .f32⟩
  | .hbm, ⟨15, _⟩ => ⟨S1x1, .f32⟩
  | .hbm, ⟨16, _⟩ => ⟨S1x1, .f32⟩
  | .hbm, ⟨17, _⟩ => ⟨S1x1, .f32⟩
  | .hbm, ⟨18, _⟩ => ⟨S1x1, .f32⟩
  | .hbm, ⟨19, _⟩ => ⟨S1x1, .f32⟩
  | .hbm, ⟨20, _⟩ => ⟨S10x8192, .f32⟩
  | .hbm, ⟨21, _⟩ => ⟨S_, .f32⟩
  | .hbm, ⟨22, _⟩ => ⟨S8192, .f32⟩
  | .hbm, ⟨23, _⟩ => ⟨S10x1, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S8192, .f32⟩
  | .hbm, ⟨29, _⟩ => ⟨S8192, .f32⟩
  | .hbm, ⟨30, _⟩ => ⟨S_, .f32⟩
  | .hbm, ⟨31, _⟩ => ⟨S8192, .f32⟩
  | .hbm, ⟨32, _⟩ => ⟨S8192, .f32⟩
  | .hbm, ⟨33, _⟩ => ⟨S8192, .f32⟩
  | .hbm, ⟨34, _⟩ => ⟨S8192, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S1x1, .f32⟩
  | .hbm, ⟨42, _⟩ => ⟨S1x1, .f32⟩
  | _, _ => ⟨S1x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_cst : Ref sig .tc := ⟨.hbm, 21, rfl⟩
abbrev main_v1 : Ref sig .tc := ⟨.hbm, 22, rfl⟩
abbrev main_v2 : Ref sig .tc := ⟨.hbm, 23, rfl⟩
abbrev main_cst_0 : Ref sig .tc := ⟨.hbm, 24, rfl⟩
abbrev main_v3 : Ref sig .tc := ⟨.hbm, 25, rfl⟩
abbrev main_cst_1 : Ref sig .tc := ⟨.hbm, 26, rfl⟩
abbrev main_v4 : Ref sig .tc := ⟨.hbm, 27, rfl⟩
abbrev main_v5 : Ref sig .tc := ⟨.hbm, 28, rfl⟩
abbrev main_v6 : Ref sig .tc := ⟨.hbm, 29, rfl⟩
abbrev main_cst_2 : Ref sig .tc := ⟨.hbm, 30, rfl⟩
abbrev main_v7 : Ref sig .tc := ⟨.hbm, 31, rfl⟩
abbrev main_v8 : Ref sig .tc := ⟨.hbm, 32, rfl⟩
abbrev main_v9 : Ref sig .tc := ⟨.hbm, 33, rfl⟩
abbrev main_v10 : Ref sig .tc := ⟨.hbm, 34, rfl⟩
abbrev main_cst_3 : Ref sig .tc := ⟨.hbm, 35, rfl⟩
abbrev main_v11 : Ref sig .tc := ⟨.hbm, 36, rfl⟩
abbrev main_v12 : Ref sig .tc := ⟨.hbm, 37, rfl⟩
abbrev main_v13 : Ref sig .tc := ⟨.hbm, 38, rfl⟩
abbrev main_cst_4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩

abbrev nD : Nat := 1
abbrev τ : Topo := Topo.v7x

variable {F : FTy → Type} [FloatOps F]
-- ==== Kernel13.lean ====
abbrev S4096x64 : Shape := ⟨2, ![4096, 64]⟩
abbrev S16x256 : Shape := ⟨2, ![16, 256]⟩
abbrev S1x16 : Shape := ⟨2, ![1, 16]⟩
abbrev S16x64 : Shape := ⟨2, ![16, 64]⟩
abbrev S256x64 : Shape := ⟨2, ![256, 64]⟩
abbrev S1x64 : Shape := ⟨2, ![1, 64]⟩

abbrev nBuf : Space → Nat
  | .hbm => 4
  | .vmem => 4
  | .smem => 0
  | _ => 0

abbrev bufTy : (tb : Table) → Fin (tcTables nBuf tb) → BufTy
  | .hbm, ⟨0, _⟩ => ⟨S4096x64, .f32⟩
  | .hbm, ⟨1, _⟩ => ⟨S16x256, .f32⟩
  | .hbm, ⟨2, _⟩ => ⟨S1x16, .f32⟩
  | .hbm, ⟨3, _⟩ => ⟨S16x64, .f32⟩
  | .local _ .vmem, ⟨0, _⟩ => ⟨S4096x64, .f32⟩
  | .local _ .vmem, ⟨1, _⟩ => ⟨S16x256, .f32⟩
  | .local _ .vmem, ⟨2, _⟩ => ⟨S1x16, .f32⟩
  | .local _ .vmem, ⟨3, _⟩ => ⟨S16x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_sem0_0 : DmaSem sig := 0
abbrev cc0_sem1_0 : DmaSem sig := 1
abbrev cc0_sem2_0 : DmaSem sig := 2
abbrev cc0_sem3_0 : DmaSem sig := 3

abbrev nD : Nat := 1
abbrev τ : Topo := Topo.v7x

variable {F : FTy → Type} [FloatOps F]

abbrev grid0 : Pipeline.Grid := .none

abbrev stage0_0 : Fin 1 → Memref sig .tc .vmem S4096x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x16 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S16x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
-- ==== Reference13Ideal.lean ====
abbrev S4096x64 : Shape := ⟨2, ![4096, 64]⟩
abbrev S1x16 : Shape := ⟨2, ![1, 16]⟩
abbrev S16x16x16x64 : Shape := ⟨4, ![16, 16, 16, 64]⟩
abbrev S16x16x64x1 : Shape := ⟨4, ![16, 16, 64, 1]⟩
abbrev S16x1x16x64 : Shape := ⟨4, ![16, 1, 16, 64]⟩
abbrev S16x1x64x1 : Shape := ⟨4, ![16, 1, 64, 1]⟩
abbrev S16x1x1x64 : Shape := ⟨4, ![16, 1, 1, 64]⟩
abbrev S16x64 : Shape := ⟨2, ![16, 64]⟩

abbrev nBuf : Space → Nat
  | .hbm => 9
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S1x16, .f32⟩
  | .hbm, ⟨2, _⟩ => ⟨S1x16, .f32⟩
  | .hbm, ⟨3, _⟩ => ⟨S16x16x16x64, .f32⟩
  | .hbm, ⟨4, _⟩ => ⟨S16x16x64x1, .f32⟩
  | .hbm, ⟨5, _⟩ => ⟨S16x1x16x64, .f32⟩
  | .hbm, ⟨6, _⟩ => ⟨S16x1x64x1, .f32⟩
  | .hbm, ⟨7, _⟩ => ⟨S16x1x1x64, .f32⟩
  | .hbm, ⟨8, _⟩ => ⟨S16x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_cst_0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel14.lean ====
abbrev S16x64 : Shape := ⟨2, ![16, 64]⟩
abbrev S4x64x64x3x3 : Shape := ⟨5, ![4, 64, 64, 3, 3]⟩
abbrev S4x64 : Shape := ⟨2, ![4, 64]⟩
abbrev S4096x64 : Shape := ⟨2, ![4096, 64]⟩
abbrev S16x1 : Shape := ⟨2, ![16, 1]⟩
abbrev S256x16 : Shape := ⟨2, ![256, 16]⟩
abbrev S32x256 : Shape := ⟨2, ![32, 256]⟩
abbrev S4x32 : Shape := ⟨2, ![4, 32]⟩
abbrev S4x3x3x64x64 : Shape := ⟨5, ![4, 3, 3, 64, 64]⟩
abbrev S1x3x3x64x64 : Shape := ⟨5, ![1, 3, 3, 64, 64]⟩
abbrev S3x3x64x64 : Shape := ⟨4, ![3, 3, 64, 64]⟩
abbrev S1x64 : Shape := ⟨2, ![1, 64]⟩
abbrev S64 : Shape := ⟨1, ![64]⟩
abbrev S1x1 : Shape := ⟨2, ![1, 1]⟩
abbrev S64x64 : Shape := ⟨2, ![64, 64]⟩
abbrev S256x64 : Shape := ⟨2, ![256, 64]⟩
abbrev S16x16x16x64 : Shape := ⟨4, ![16, 16, 16, 64]⟩
abbrev S16x1x16x64 : Shape := ⟨4, ![16, 1, 16, 64]⟩
abbrev S16x18x1x64 : Shape := ⟨4, ![16, 18, 1, 64]⟩
abbrev S16x18x16x64 : Shape := ⟨4, ![16, 18, 16, 64]⟩
abbrev S16x18x18x64 : Shape := ⟨4, ![16, 18, 18, 64]⟩
abbrev S1x1x64x64 : Shape := ⟨4, ![1, 1, 64, 64]⟩
abbrev S1x4096x64 : Shape := ⟨3, ![1, 4096, 64]⟩
abbrev S1 : Shape := ⟨1, ![1]⟩
abbrev S1x1x1 : Shape := ⟨3, ![1, 1, 1]⟩
abbrev S32x64 : Shape := ⟨2, ![32, 64]⟩

abbrev nBuf : Space → Nat
  | .hbm => 20
  | .vmem => 14
  | .smem => 0
  | _ => 0

abbrev bufTy : (tb : Table) → Fin (tcTables nBuf tb) → BufTy
  | .hbm, ⟨0, _⟩ => ⟨S16x64, .f32⟩
  | .hbm, ⟨1, _⟩ => ⟨S4x64x64x3x3, .f32⟩
  | .hbm, ⟨2, _⟩ => ⟨S4x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S16x1, .f32⟩
  | .hbm, ⟨7, _⟩ => ⟨S256x16, .f32⟩
  | .hbm, ⟨8, _⟩ => ⟨S32x256, .f32⟩
  | .hbm, ⟨9, _⟩ => ⟨S4x32, .f32⟩
  | .hbm, ⟨10, _⟩ => ⟨S4x3x3x64x64, .f32⟩
  | .hbm, ⟨11, _⟩ => ⟨S1x3x3x64x64, .f32⟩
  | .hbm, ⟨12, _⟩ => ⟨S3x3x64x64, .f32⟩
  | .hbm, ⟨13, _⟩ => ⟨S1x64, .f32⟩
  | .hbm, ⟨14, _⟩ => ⟨S64, .f32⟩
  | .hbm, ⟨15, _⟩ => ⟨S1x64, .f32⟩
  | .hbm, ⟨16, _⟩ => ⟨S4096x64, .f32⟩
  | .hbm, ⟨17, _⟩ => ⟨S4096x64, .f32⟩
  | .hbm, ⟨18, _⟩ => ⟨S1x1, .f32⟩
  | .hbm, ⟨19, _⟩ => ⟨S64x64, .f32⟩
  | .local _ .vmem, ⟨0, _⟩ => ⟨S16x64, .f32⟩
  | .local _ .vmem, ⟨1, _⟩ => ⟨S3x3x64x64, .f32⟩
  | .local _ .vmem, ⟨2, _⟩ => ⟨S1x64, .f32⟩
  | .local _ .vmem, ⟨3, _⟩ => ⟨S4096x64, .f32⟩
  | .local _ .vmem, ⟨4, _⟩ => ⟨S4096x64, .f32⟩
  | .local _ .vmem, ⟨5, _⟩ => ⟨S4096x64, .f32⟩
  | .local _ .vmem, ⟨6, _⟩ => ⟨S16x1, .f32⟩
  | .local _ .vmem, ⟨7, _⟩ => ⟨S256x16, .f32⟩
  | .local _ .vmem, ⟨8, _⟩ => ⟨S32x256, .f32⟩
  | .local _ .vmem, ⟨9, _⟩ => ⟨S4x32, .f32⟩
  | .local _ .vmem, ⟨10, _⟩ => ⟨S4096x64, .f32⟩
  | .local _ .vmem, ⟨11, _⟩ => ⟨S4096x64, .f32⟩
  | .local _ .vmem, ⟨12, _⟩ => ⟨S1x1, .f32⟩
  | .local _ .vmem, ⟨13, _⟩ => ⟨S64x64, .f32⟩
  | _, _ => ⟨S16x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6_0 : Ref sig .tc := ⟨.hbm, 16, rfl⟩
abbrev main_v6_1 : Ref sig .tc := ⟨.hbm, 17, rfl⟩
abbrev main_v6_2 : Ref sig .tc := ⟨.hbm, 18, rfl⟩
abbrev main_v6_3 : Ref sig .tc := ⟨.hbm, 19, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S16x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S3x3x64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4096x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4096x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4096x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S4x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S4096x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S4096x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S1x1 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S64x64 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Reference14Ideal.lean ====
abbrev S16x64 : Shape := ⟨2, ![16, 64]⟩
abbrev S4x64x64x3x3 : Shape := ⟨5, ![4, 64, 64, 3, 3]⟩
abbrev S4x64 : Shape := ⟨2, ![4, 64]⟩
abbrev S4096x64 : Shape := ⟨2, ![4096, 64]⟩
abbrev S16x1 : Shape := ⟨2, ![16, 1]⟩
abbrev S2x16 : Shape := ⟨2, ![2, 16]⟩
abbrev S16x1x1x64 : Shape := ⟨4, ![16, 1, 1, 64]⟩
abbrev S16x1x64x16 : Shape := ⟨4, ![16, 1, 64, 16]⟩
abbrev S16x16x1x64 : Shape := ⟨4, ![16, 16, 1, 64]⟩
abbrev S16x16x64x16 : Shape := ⟨4, ![16, 16, 64, 16]⟩
abbrev S16x16x16x64 : Shape := ⟨4, ![16, 16, 16, 64]⟩
abbrev S1x64x64x3x3 : Shape := ⟨5, ![1, 64, 64, 3, 3]⟩
abbrev S64x64x3x3 : Shape := ⟨4, ![64, 64, 3, 3]⟩
abbrev S1x64 : Shape := ⟨2, ![1, 64]⟩
abbrev S64 : Shape := ⟨1, ![64]⟩
abbrev S_ : Shape := ⟨0, ![]⟩
abbrev S16x18x18x64 : Shape := ⟨4, ![16, 18, 18, 64]⟩
abbrev S1x1x1x64 : Shape := ⟨4, ![1, 1, 1, 64]⟩
abbrev S64x64x1x1 : Shape := ⟨4, ![64, 64, 1, 1]⟩
abbrev S64x64 : Shape := ⟨2, ![64, 64]⟩
abbrev S1x1 : Shape := ⟨2, ![1, 1]⟩
abbrev S16x16x64x2 : Shape := ⟨4, ![16, 16, 64, 2]⟩
abbrev S16x2x16x64 : Shape := ⟨4, ![16, 2, 16, 64]⟩
abbrev S16x2x64x2 : Shape := ⟨4, ![16, 2, 64, 2]⟩
abbrev S16x2x2x64 : Shape := ⟨4, ![16, 2, 2, 64]⟩

abbrev nBuf : Space → Nat
  | .hbm => 102
  | .vmem => 0
  | .smem => 0
  | _ => 0

abbrev bufTy : (tb : Table) → Fin (tcTables nBuf tb) → BufTy
  | .hbm, ⟨0, _⟩ => ⟨S16x64, .f32⟩
  | .hbm, ⟨1, _⟩ => ⟨S4x64x64x3x3, .f32⟩
  | .hbm, ⟨2, _⟩ => ⟨S4x64, .f32⟩
  | .hbm, ⟨3, _⟩ => ⟨S4096x64, .f32⟩
  | .hbm, ⟨4, _⟩ => ⟨S4096x64, .f32⟩
  | .hbm, ⟨5, _⟩ => ⟨S4096x64, .f32⟩
  | .hbm, ⟨6, _⟩ => ⟨S16x1, .f32⟩
  | .hbm, ⟨7, _⟩ => ⟨S16x1, .f32⟩
  | .hbm, ⟨8, _⟩ => ⟨S2x16, .f32⟩
  | .hbm, ⟨9, _⟩ => ⟨S2x16, .f32⟩
  | .hbm, ⟨10, _⟩ => ⟨S16x1x1x64, .f32⟩
  | .hbm, ⟨11, _⟩ => ⟨S16x1x64x16, .f32⟩
  | .hbm, ⟨12, _⟩ => ⟨S16x16x1x64, .f32⟩
  | .hbm, ⟨13, _⟩ => ⟨S16x16x64x16, .f32⟩
  | .hbm, ⟨14, _⟩ => ⟨S16x16x16x64, .f32⟩
  | .hbm, ⟨15, _⟩ => ⟨S1x64x64x3x3, .f32⟩
  | .hbm, ⟨16, _⟩ => ⟨S64x64x3x3, .f32⟩
  | .hbm, ⟨17, _⟩ => ⟨S1x64, .f32⟩
  | .hbm, ⟨18, _⟩ => ⟨S64, .f32⟩
  | .hbm, ⟨19, _⟩ => ⟨S_, .i32⟩
  | .hbm, ⟨20, _⟩ => ⟨S_, .f32⟩
  | .hbm, ⟨21, _⟩ => ⟨S16x18x18x64, .f32⟩
  | .hbm, ⟨22, _⟩ => ⟨S1x1x1x64, .f32⟩
  | .hbm, ⟨23, _⟩ => ⟨S16x16x16x64, .f32⟩
  | .hbm, ⟨24, _⟩ => ⟨S64x64x1x1, .f32⟩
  | .hbm, ⟨25, _⟩ => ⟨S64x64, .f32⟩
  | .hbm, ⟨26, _⟩ => ⟨S16x16x16x64, .f32⟩
  | .hbm, ⟨27, _⟩ => ⟨S16x16x16x64, .f32⟩
  | .hbm, ⟨28, _⟩ => ⟨S16x16x16x64, .f32⟩
  | .hbm, ⟨29, _⟩ => ⟨S16x16x16x64, .f32⟩
  | .hbm, ⟨30, _⟩ => ⟨S64x64x1x1, .f32⟩
  | .hbm, ⟨31, _⟩ => ⟨S64x64, .f32⟩
  | .hbm, ⟨32, _⟩ => ⟨S16x16x16x64, .f32⟩
  | .hbm, ⟨33, _⟩ => ⟨S16x16x16x64, .f32⟩
  | .hbm, ⟨34, _⟩ => ⟨S16x16x16x64, .f32⟩
  | .hbm, ⟨35, _⟩ => ⟨S64x64x1x1, .f32⟩
  | .hbm, ⟨36, _⟩ => ⟨S64x64, .f32⟩
  | .hbm, ⟨37, _⟩ => ⟨S16x16x16x64, .f32⟩
  | .hbm, ⟨38, _⟩ => ⟨S16x16x16x64, .f32⟩
  | .hbm, ⟨39, _⟩ => ⟨S16x16x16x64, .f32⟩
  | .hbm, ⟨40, _⟩ => ⟨S64x64x1x1, .f32⟩
  | .hbm, ⟨41, _⟩ => ⟨S64x64, .f32⟩
  | .hbm, ⟨42, _⟩ => ⟨S16x16x16x64, .f32⟩
  | .hbm, ⟨43, _⟩ => ⟨S16x16x16x64, .f32⟩
  | .hbm, ⟨44, _⟩ => ⟨S16x16x16x64, .f32⟩
  | .hbm, ⟨45, _⟩ => ⟨S64x64x1x1, .f32⟩
  | .hbm, ⟨46, _⟩ => ⟨S64x64, .f32⟩
  | .hbm, ⟨47, _⟩ => ⟨S16x16x16x64, .f32⟩
  | .hbm, ⟨48, _⟩ => ⟨S16x16x16x64, .f32⟩
  | .hbm, ⟨49, _⟩ => ⟨S16x16x16x64, .f32⟩
  | .hbm, ⟨50, _⟩ => ⟨S64x64x1x1, .f32⟩
  | .hbm, ⟨51, _⟩ => ⟨S64x64, .f32⟩
  | .hbm, ⟨52, _⟩ => ⟨S16x16x16x64, .f32⟩
  | .hbm, ⟨53, _⟩ => ⟨S16x16x16x64, .f32⟩
  | .hbm, ⟨54, _⟩ => ⟨S16x16x16x64, .f32⟩
  | .hbm, ⟨55, _⟩ => ⟨S64x64x1x1, .f32⟩
  | .hbm, ⟨56, _⟩ => ⟨S64x64, .f32⟩
  | .hbm, ⟨57, _⟩ => ⟨S16x16x16x64, .f32⟩
  | .hbm, ⟨58, _⟩ => ⟨S16x16x16x64, .f32⟩
  | .hbm, ⟨59, _⟩ => ⟨S16x16x16x64, .f32⟩
  | .hbm, ⟨60, _⟩ => ⟨S64x64x1x1, .f32⟩
  | .hbm, ⟨61, _⟩ => ⟨S64x64, .f32⟩
  | .hbm, ⟨62, _⟩ => ⟨S16x16x16x64, .f32⟩
  | .hbm, ⟨63, _⟩ => ⟨S16x16x16x64, .f32⟩
  | .hbm, ⟨64, _⟩ => ⟨S16x16x16x64, .f32⟩
  | .hbm, ⟨65, _⟩ => ⟨S64x64x1x1, .f32⟩
  | .hbm, ⟨66, _⟩ => ⟨S64x64, .f32⟩
  | .hbm, ⟨67, _⟩ => ⟨S16x16x16x64, .f32⟩
  | .hbm, ⟨68, _⟩ => ⟨S16x16x16x64, .f32⟩
  | .hbm, ⟨69, _⟩ => ⟨S4096x64, .f32⟩
  | .hbm, ⟨70, _⟩ => ⟨S_, .f32⟩
  | .hbm, ⟨71, _⟩ => ⟨S4096x64, .f32⟩
  | .hbm, ⟨72, _⟩ => ⟨S4096x64, .f32⟩
  | .hbm, ⟨73, _⟩ => ⟨S4096x64, .f32⟩
  | .hbm, ⟨74, _⟩ => ⟨S_, .f32⟩
  | .hbm, ⟨75, _⟩ => ⟨S4096x64, .f32⟩
  | .hbm, ⟨76, _⟩ => ⟨S4096x64, .f32⟩
  | .hbm, ⟨77, _⟩ => ⟨S4096x64, .f32⟩
  | .hbm, ⟨78, _⟩ => ⟨S4096x64, .f32⟩
  | .hbm, ⟨79, _⟩ => ⟨S4096x64, .f32⟩
  | .hbm, ⟨80, _⟩ => ⟨S4096x64, .f32⟩
  | .hbm, ⟨81, _⟩ => ⟨S4096x64, .f32⟩
  | .hbm, ⟨82, _⟩ => ⟨S_, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S4096x64, .f32⟩
  | .hbm, ⟨89, _⟩ => ⟨S4096x64, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | .hbm, ⟨95, _⟩ => ⟨S1x1, .f32⟩
  | .hbm, ⟨96, _⟩ => ⟨S16x16x16x64, .f32⟩
  | .hbm, ⟨97, _⟩ => ⟨S16x16x64x2, .f32⟩
  | .hbm, ⟨98, _⟩ => ⟨S16x2x16x64, .f32⟩
  | .hbm, ⟨99, _⟩ => ⟨S16x2x64x2, .f32⟩
  | .hbm, ⟨100, _⟩ => ⟨S16x2x2x64, .f32⟩
  | .hbm, ⟨101, _⟩ => ⟨S64x64, .f32⟩
  | _, _ => ⟨S16x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_cst_0 : Ref sig .tc := ⟨.hbm, 7, rfl⟩
abbrev main_cst_1 : Ref sig .tc := ⟨.hbm, 8, rfl⟩
abbrev main_cst_2 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_c : Ref sig .tc := ⟨.hbm, 19, rfl⟩
abbrev main_call0_v0 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_v52 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_cst_3 : Ref sig .tc := ⟨.hbm, 70, rfl⟩
abbrev main_v58 : Ref sig .tc := ⟨.hbm, 71, rfl⟩
abbrev main_v59 : Ref sig .tc := ⟨.hbm, 72, rfl⟩
abbrev main_v60 : Ref sig .tc := ⟨.hbm, 73, rfl⟩
abbrev main_cst_4 : Ref sig .tc := ⟨.hbm, 74, rfl⟩
abbrev main_v61 : Ref sig .tc := ⟨.hbm, 75, rfl⟩
abbrev main_v62 : Ref sig .tc := ⟨.hbm, 76, rfl⟩
abbrev main_v63 : Ref sig .tc := ⟨.hbm, 77, rfl⟩
abbrev main_v64 : Ref sig .tc := ⟨.hbm, 78, rfl⟩
abbrev main_v65 : Ref sig .tc := ⟨.hbm, 79, rfl⟩
abbrev main_v66 : Ref sig .tc := ⟨.hbm, 80, rfl⟩
abbrev main_v67 : Ref sig .tc := ⟨.hbm, 81, rfl⟩
abbrev main_cst_5 : Ref sig .tc := ⟨.hbm, 82, rfl⟩
abbrev main_v68 : Ref sig .tc := ⟨.hbm, 83, rfl⟩
abbrev main_cst_6 : Ref sig .tc := ⟨.hbm, 84, rfl⟩
abbrev main_v69 : Ref sig .tc := ⟨.hbm, 85, rfl⟩
abbrev main_cst_7 : Ref sig .tc := ⟨.hbm, 86, rfl⟩
abbrev main_v70 : Ref sig .tc := ⟨.hbm, 87, rfl⟩
abbrev main_v71 : Ref sig .tc := ⟨.hbm, 88, rfl⟩
abbrev main_v72 : Ref sig .tc := ⟨.hbm, 89, rfl⟩
abbrev main_cst_8 : Ref sig .tc := ⟨.hbm, 90, rfl⟩
abbrev main_v73 : Ref sig .tc := ⟨.hbm, 91, rfl⟩
abbrev main_cst_9 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩

abbrev nD : Nat := 1
abbrev τ : Topo := Topo.v7x

variable {F : FTy → Type} [FloatOps F]
-- ==== Proof.Codebook.lean ====
/-
  The nearest row of a codebook, over the extended reals, and how one block of the kernel and the host's arg-min find it.

  `code f` is the first index at which `f` is least. A search over `n` rows `X` and a codebook `E` of 8192 rows of 64
  lanes is stated by `picked` (each row's code), `near` (the codebook rows picked) and `tally` (how many rows picked
  each code). The row count `n` is a variable throughout, so that every search is read by the same lemmas.
-/
module

public import Idealize.ShloMosaic.Lib.Pointwise
public import Idealize.ShloMosaic.Lib.Pointwise.IndexBridge
public import Idealize.ShloMosaic.Lib.Routing.Ops
public import Idealize.ShloMosaic.Lib.SortNet.Extract

@[expose] public section

noncomputable section

namespace Cert.Codebook

open Idealize.ShloMosaic

/-! ## The first least index -/

theorem exists_code (f : Fin 8192 → EReal) : ∃ k, (∀ l, f k ≤ f l) ∧ ∀ l < k, f k < f l := by
  obtain ⟨k₀, -, h₀⟩ := Finset.exists_min_image Finset.univ f ⟨0, Finset.mem_univ _⟩
  have hne : (Finset.univ.filter fun k => ∀ l, f k ≤ f l).Nonempty :=
    ⟨k₀, Finset.mem_filter.2 ⟨Finset.mem_univ _, fun l => h₀ l (Finset.mem_univ _)⟩⟩
  refine ⟨Finset.min' _ hne, (Finset.mem_filter.1 (Finset.min'_mem _ hne)).2, fun l hl => ?_⟩
  refine lt_of_not_ge fun hge => ?_
  have hm : l ∈ Finset.univ.filter fun k => ∀ l, f k ≤ f l :=
    Finset.mem_filter.2 ⟨Finset.mem_univ _, fun q => hge.trans ((Finset.mem_filter.1 (Finset.min'_mem _ hne)).2 q)⟩
  exact absurd hl (not_lt.2 (Finset.min'_le _ _ hm))

/-- The first index at which `f` takes its least value. -/
def code (f : Fin 8192 → EReal) : Fin 8192 := (exists_code f).choose

theorem code_le (f : Fin 8192 → EReal) (l : Fin 8192) : f (code f) ≤ f l := (exists_code f).choose_spec.1 l
theorem code_first (f : Fin 8192 → EReal) {l : Fin 8192} (h : l < code f) : f (code f) < f l :=
  (exists_code f).choose_spec.2 l h

/-- An index no greater in value than the code, and no later, is the code. -/
theorem eq_code (f : Fin 8192 → EReal) {k : Fin 8192} (hv : f k ≤ f (code f)) (hk : k ≤ code f) : k = code f :=
  hk.eq_of_not_lt fun h => absurd (code_first f h) (not_lt.2 hv)

/-! ## A search -/

/-- The printed constant `2.0`. -/
abbrev two : EReal := Ideal.ofBits .f32 0x40000000#32

variable {n : Nat}

/-- The distance of row `r` from codebook row `k`: `|x|² + |e|² - 2 x·e`. -/
def dist (X : (⟨2, ![n, 64]⟩ : Shape).Idx → EReal) (E : (⟨2, ![8192, 64]⟩ : Shape).Idx → EReal) (r : Fin n) (k : Fin 8192) : EReal :=
  ((∑ c : Fin 64, X (ix2 r c) * X (ix2 r c)) + ∑ c : Fin 64, E (ix2 k c) * E (ix2 k c))
    - two * ∑ c : Fin 64, X (ix2 r c) * E (ix2 k c)

/-- The code of row `r`: the nearest codebook row, the first of several. -/
def picked (X : (⟨2, ![n, 64]⟩ : Shape).Idx → EReal) (E : (⟨2, ![8192, 64]⟩ : Shape).Idx → EReal) (r : Fin n) : Fin 8192 :=
  code (dist X E r)

/-- The nearest codebook row of every row. -/
def near (X : (⟨2, ![n, 64]⟩ : Shape).Idx → EReal) (E : (⟨2, ![8192, 64]⟩ : Shape).Idx → EReal) :
    (⟨2, ![n, 64]⟩ : Shape).Idx → EReal := fun j => E (ix2 (picked X E (j 0)) (j 1))

/-- How many rows picked code `k`. -/
def count (X : (⟨2, ![n, 64]⟩ : Shape).Idx → EReal) (E : (⟨2, ![8192, 64]⟩ : Shape).Idx → EReal) (k : Fin 8192) : EReal :=
  ∑ r : Fin n, if picked X E r = k then 1 else 0

/-- How many rows picked each code. -/
def tally (X : (⟨2, ![n, 64]⟩ : Shape).Idx → EReal) (E : (⟨2, ![8192, 64]⟩ : Shape).Idx → EReal) :
    (⟨2, ![1, 8192]⟩ : Shape).Idx → EReal := fun j => count X E (j 1)

/-! ## The kernel's one-hot row -/

theorem fold_minsi_spec {ι : Type} [DecidableEq ι] (s : Finset ι) (b : BitVec 32) (g : ι → BitVec 32) :
    (s.fold IntOp.minsi b g = b ∨ ∃ x ∈ s, s.fold IntOp.minsi b g = g x)
      ∧ (s.fold IntOp.minsi b g).toInt ≤ b.toInt ∧ ∀ x ∈ s, (s.fold IntOp.minsi b g).toInt ≤ (g x).toInt := by
  induction s using Finset.induction_on with
  | empty => exact ⟨.inl rfl, le_refl _, fun x hx => absurd hx (Finset.notMem_empty x)⟩
  | insert a s ha ih =>
    rw [Finset.fold_insert ha]
    obtain ⟨ih1, ih2, ih3⟩ := ih
    have hm := SortNet.toInt_minsi (g a) (s.fold IntOp.minsi b g)
    refine ⟨?_, by rw [hm]; exact (min_le_right _ _).trans ih2, fun x hx => ?_⟩
    · unfold IntOp.minsi
      split
      · exact .inr ⟨a, Finset.mem_insert_self a s, rfl⟩
      · exact ih1.imp id fun ⟨x, hx, h⟩ => ⟨x, Finset.mem_insert_of_mem hx, h⟩
    · rw [hm]
      rcases Finset.mem_insert.1 hx with rfl | hx
      · exact min_le_left _ _
      · exact (min_le_right _ _).trans (ih3 x hx)

theorem toInt_lane (k : Fin 8192) : (BitVec.ofNat 32 k.val).toInt = (k.val : Int) :=
  StableHlo.Predicate.toInt_ofNat_small _ (by have := k.isLt; omega)

theorem lane_inj {k l : Fin 8192} (h : BitVec.ofNat 32 k.val = BitVec.ofNat 32 l.val) : k = l := by
  have := congrArg BitVec.toInt h
  rw [toInt_lane, toInt_lane] at this
  exact Fin.ext (by omega)

theorem top_f32 : Ideal.ofBits .f32 0x7F800000#32 = ⊤ := by simp [Ideal.ofBits, Ideal.ieee]

theorem fold_min_eq (f : Fin 8192 → EReal) :
    Finset.univ.fold min (Ideal.ofBits .f32 0x7F800000#32) f = f (code f) := by
  rw [top_f32]
  refine le_antisymm (Finset.fold_min_le (f (code f)) |>.2 (.inr ⟨code f, Finset.mem_univ _, le_refl _⟩)) ?_
  exact (Finset.le_fold_min (f (code f))).2 ⟨le_top, fun l _ => code_le f l⟩

/-- The least lane among those no greater than the least value is the code. -/
theorem fold_lane_eq (f : Fin 8192 → EReal) :
    Finset.univ.fold IntOp.minsi 2147483647#32 (fun l : Fin 8192 =>
        if f l ≤ Finset.univ.fold min (Ideal.ofBits .f32 0x7F800000#32) f then BitVec.ofNat 32 l.val else 8192#32)
      = BitVec.ofNat 32 (code f).val := by
  rw [fold_min_eq]
  obtain ⟨h1, h2, h3⟩ := fold_minsi_spec (Finset.univ : Finset (Fin 8192)) 2147483647#32
    (fun l => if f l ≤ f (code f) then BitVec.ofNat 32 l.val else 8192#32)
  have hc := h3 (code f) (Finset.mem_univ _)
  simp only [le_refl, if_true, toInt_lane] at hc
  have hlt := (code f).isLt
  rcases h1 with h | ⟨x, -, h⟩
  · rw [h] at hc
    have : (2147483647#32 : BitVec 32).toInt = 2147483647 := by decide
    omega
  · rw [h] at hc ⊢
    split at hc
    · rename_i hx
      rw [if_pos hx]
      rw [toInt_lane] at hc
      rw [eq_code f hx (by rw [Fin.le_def]; omega)]
    · have : (8192#32 : BitVec 32).toInt = 8192 := by decide
      omega

/-- An entry of the kernel's one-hot matrix is one at the row's code and zero elsewhere. -/
theorem oneHot_word (f : Fin 8192 → EReal) (k : Fin 8192) :
    FloatOps.sitofp (F := Ideal) .f32 (BitVec.setWidth 32 (IntOp.cmpi .eq (BitVec.ofNat 32 k.val)
      (Finset.univ.fold IntOp.minsi 2147483647#32 fun l : Fin 8192 =>
        if f l ≤ Finset.univ.fold min (Ideal.ofBits .f32 0x7F800000#32) f then BitVec.ofNat 32 l.val else 8192#32)))
      = if code f = k then (1 : EReal) else 0 := by
  rw [fold_lane_eq]
  show (((BitVec.setWidth 32 (BitVec.ofBool (BitVec.ofNat 32 k.val == BitVec.ofNat 32 (code f).val))).toInt : ℝ) : EReal) = _
  by_cases h : code f = k
  · rw [if_pos h, h, beq_self_eq_true]
    have : (BitVec.setWidth 32 (BitVec.ofBool true)).toInt = 1 := by decide
    rw [this]; simp
  · rw [if_neg h, beq_eq_false_iff_ne.2 fun e => h (lane_inj e).symm]
    have : (BitVec.setWidth 32 (BitVec.ofBool false)).toInt = 0 := by decide
    rw [this]; simp

/-- A one-hot row times a column is the column's entry at the code. -/
theorem sum_oneHot (c : Fin 8192) (g : Fin 8192 → EReal) : ∑ k, (if c = k then (1 : EReal) else 0) * g k = g c := by
  rw [Finset.sum_eq_single c (fun k _ hk => by rw [if_neg (Ne.symm hk), zero_mul]) (fun h => absurd (Finset.mem_univ _) h),
    if_pos rfl, one_mul]

/-! ## The host's arg-min -/

/-- A (value, index) pair: what the host's arg-min folds over. -/
abbrev Pair := Ideal .f32 × BitVec 32

/-- The host's arg-min body: the lesser value, on equal values the lesser index. -/
def lesser (a b : Pair) : Pair :=
  let lt := IntOp.ori (FloatOps.cmpf .olt a.1 b.1) (FloatOps.cmpf .une a.1 a.1)
  (Scalar.select lt a.1 b.1,
    Scalar.select (IntOp.ori lt (IntOp.andi (FloatOps.cmpf .oeq a.1 b.1) (IntOp.cmpi .slt a.2 b.2))) a.2 b.2)

/-- Pair `a` comes no later than pair `b`: by value, then by index. -/
def Before (a b : Pair) : Prop := (show EReal from a.1) < b.1 ∨ ((show EReal from a.1) = b.1 ∧ a.2.toInt ≤ b.2.toInt)

theorem Before.refl (a : Pair) : Before a a := .inr ⟨rfl, le_refl _⟩
theorem Before.trans {a b c : Pair} (h : Before a b) (h' : Before b c) : Before a c := by
  rcases h with h | ⟨h, i⟩ <;> rcases h' with h' | ⟨h', i'⟩
  · exact .inl (lt_trans h h')
  · exact .inl (h' ▸ h)
  · exact .inl (h ▸ h')
  · exact .inr ⟨h.trans h', i.trans i'⟩

theorem lesser_spec (a b : Pair) : (lesser a b = a ∨ lesser a b = b) ∧ Before (lesser a b) a ∧ Before (lesser a b) b := by
  obtain ⟨x, i⟩ := a
  obtain ⟨y, j⟩ := b
  rcases lt_trichotomy (show EReal from x) y with h | h | h
  · have e : lesser (x, i) (y, j) = (x, i) := by
      have h' : (x : EReal) < y := h
      simp [lesser, Ideal.cmpf_def, Ideal.cmp, Scalar.select, IntOp.ori, IntOp.andi, IntOp.cmpi, h', h'.ne]
    rw [e]; exact ⟨.inl rfl, .refl _, .inl h⟩
  · subst h
    by_cases hij : i.slt j
    · have e : lesser (x, i) (x, j) = (x, i) := by
        simp [lesser, Ideal.cmpf_def, Ideal.cmp, Scalar.select, IntOp.ori, IntOp.andi, IntOp.cmpi, hij]
      rw [e]; exact ⟨.inl rfl, .refl _, .inr ⟨rfl, by rw [BitVec.slt_iff_toInt_lt] at hij; exact hij.le⟩⟩
    · have e : lesser (x, i) (x, j) = (x, j) := by
        simp [lesser, Ideal.cmpf_def, Ideal.cmp, Scalar.select, IntOp.ori, IntOp.andi, IntOp.cmpi, hij]
      rw [e]; exact ⟨.inr rfl, .inr ⟨rfl, by rw [BitVec.slt_iff_toInt_lt] at hij; exact not_lt.1 hij⟩, .refl _⟩
  · have e : lesser (x, i) (y, j) = (y, j) := by
      simp [lesser, Ideal.cmpf_def, Ideal.cmp, Scalar.select, IntOp.ori, IntOp.andi, not_lt.2 h.le, h.ne']
    rw [e]; exact ⟨.inr rfl, .inl h, .refl _⟩

theorem foldl_lesser_spec {ι : Type} (g : ι → Pair) : ∀ (L : List ι) (a : Pair),
    (L.foldl (fun r x => lesser r (g x)) a = a ∨ ∃ x ∈ L, L.foldl (fun r x => lesser r (g x)) a = g x)
      ∧ Before (L.foldl (fun r x => lesser r (g x)) a) a ∧ ∀ x ∈ L, Before (L.foldl (fun r x => lesser r (g x)) a) (g x)
  | [], a => ⟨.inl rfl, .refl a, fun _ h => absurd h List.not_mem_nil⟩
  | y :: L, a => by
    obtain ⟨h1, h2, h3⟩ := foldl_lesser_spec g L (lesser a (g y))
    obtain ⟨k1, k2, k3⟩ := lesser_spec a (g y)
    refine ⟨?_, h2.trans k2, fun x hx => ?_⟩
    · rcases h1 with h | ⟨x, hx, h⟩
      · rcases k1 with k | k
        · exact .inl (h.trans k)
        · exact .inr ⟨y, List.mem_cons_self, h.trans k⟩
      · exact .inr ⟨x, List.mem_cons_of_mem _ hx, h⟩
    · rcases List.mem_cons.1 hx with rfl | hx
      · exact h2.trans k3
      · exact h3 x hx

/-- The host's arg-min along the lanes of a matrix is each row's code. -/
theorem argmin_apply (d : FVec Ideal ⟨2, ![n, 8192]⟩ .f32) (y : IVec ⟨2, ![n, 8192]⟩ 32) (ix : FVec Ideal ⟨0, ![]⟩ .f32)
    (iy : IVec ⟨0, ![]⟩ 32) (h : (⟨2, ![n, 8192]⟩ : Shape).ReducesTo [1] ⟨1, ![n]⟩) (hu : 0 < (⟨0, ![]⟩ : Shape).numel)
    (hy : ∀ r k, y (ix2 r k) = BitVec.ofNat 32 k.val) (hx : ∀ i, ix i = Ideal.ofBits .f32 0x7F800000#32)
    (hz : ∀ i, iy i = 0#32) (r : Fin n) :
    (Host.argReduce lesser d y ix iy h hu (ix1 r)).2 = BitVec.ofNat 32 (code fun k => d (ix2 r k)).val := by
  have hdrop : ∀ (q : Fin n) (k : Fin 8192), h.drop (ix2 q k) = ix1 q := fun q k => by
    funext b
    apply Fin.ext
    match b with
    | ⟨0, _⟩ => exact h.drop_apply_val (ix2 q k) 0
  rw [Ideal.argReduce_eq_reduce2]
  unfold Host.reduce2
  set f : Fin 8192 → EReal := fun k => d (ix2 r k) with hf
  set L := (List.finRange (⟨2, ![n, 8192]⟩ : Shape).numel).filter
    fun m => h.drop ((⟨2, ![n, 8192]⟩ : Shape).rowMajor.symm m) = ix1 r with hL
  obtain ⟨h1, -, h3⟩ := foldl_lesser_spec (fun m => (d ((⟨2, ![n, 8192]⟩ : Shape).rowMajor.symm m),
    y ((⟨2, ![n, 8192]⟩ : Shape).rowMajor.symm m))) L (ix (Shape.Idx.first hu), iy (Shape.Idx.first hu))
  have hmem : ∀ k, (⟨2, ![n, 8192]⟩ : Shape).rowMajor (ix2 r k) ∈ L := fun k => by
    rw [hL, List.mem_filter]
    refine ⟨List.mem_finRange _, ?_⟩
    rw [Equiv.symm_apply_apply, hdrop]; simp
  have hof : ∀ m ∈ L, ∃ k, (⟨2, ![n, 8192]⟩ : Shape).rowMajor.symm m = ix2 r k := fun m hm => by
    rw [hL, List.mem_filter] at hm
    have hd := of_decide_eq_true hm.2
    generalize (⟨2, ![n, 8192]⟩ : Shape).rowMajor.symm m = i at hd
    obtain ⟨a, b, rfl⟩ : ∃ (a : Fin n) (b : Fin 8192), i = ix2 a b := ⟨i 0, i 1, eq_ix2 i⟩
    rw [hdrop] at hd
    have : a = r := congrFun hd 0
    exact ⟨b, by rw [this]⟩
  have hc := h3 _ (hmem (code f))
  simp only [Equiv.symm_apply_apply] at hc
  rw [hy] at hc
  rcases h1 with e | ⟨m, hm, e⟩
  · rw [e] at hc ⊢
    rw [hx, hz] at hc
    show iy _ = _
    rw [hz]
    have htop : f (code f) = ⊤ := by
      rcases hc with hc | ⟨hc, -⟩
      · exact absurd hc (by rw [top_f32]; exact not_top_lt)
      · exact (top_f32.symm.trans hc).symm
    have h0 : (0 : Fin 8192) = code f := eq_code f (htop ▸ le_top) (Fin.zero_le _)
    rw [← h0]; rfl
  · obtain ⟨k, hk⟩ := hof m hm
    rw [e, hk, hy] at hc
    rw [e, hk]
    show y _ = _
    rw [hy]
    have hk' : k = code f := by
      rcases hc with hc | ⟨hc, hi⟩
      · exact absurd hc (not_lt.2 (code_le f k))
      · rw [toInt_lane, toInt_lane] at hi
        exact eq_code f (le_of_eq hc) (by rw [Fin.le_def]; omega)
    rw [hk']

/-- A compared pair of codes, converted: one where they agree, zero elsewhere. -/
theorem eq_word (c k : Fin 8192) :
    FloatOps.uitofp (F := Ideal) .f32 (IntOp.cmpi .eq (BitVec.ofNat 32 c.val) (BitVec.ofNat 32 k.val))
      = if c = k then (1 : EReal) else 0 := by
  show (((BitVec.ofBool (BitVec.ofNat 32 c.val == BitVec.ofNat 32 k.val)).toNat : ℝ) : EReal) = _
  by_cases h : c = k
  · rw [if_pos h, h, beq_self_eq_true]; simp
  · rw [if_neg h, beq_eq_false_iff_ne.2 fun e => h (lane_inj e)]; simp

/-! ## A search, block by block -/

/-- Rows `b·t … b·t + b - 1` of `X`. -/
def rowsAt (b : Nat) (t : Nat) (h : t * b + b ≤ n) (X : (⟨2, ![n, 64]⟩ : Shape).Idx → EReal) :
    (⟨2, ![b, 64]⟩ : Shape).Idx → EReal :=
  fun j => X (ix2 ⟨t * b + (j 0).val, by have h0 : (j 0).val < b := (j 0).isLt; omega⟩ (j 1))

variable {b t : Nat} (X : (⟨2, ![n, 64]⟩ : Shape).Idx → EReal) (E : (⟨2, ![8192, 64]⟩ : Shape).Idx → EReal)

theorem picked_rowsAt (h : t * b + b ≤ n) (r : Fin b) :
    picked (rowsAt b t h X) E r = picked X E ⟨t * b + r.val, by have := r.isLt; omega⟩ := rfl

theorem near_rowsAt (h : t * b + b ≤ n) : near (rowsAt b t h X) E = rowsAt b t h (near X E) := rfl

/-- The tallies of the blocks add up to the tally. -/
theorem sum_tally (s : Nat) (hn : s * b = n) (h : ∀ t : Fin s, t.val * b + b ≤ n) (j) :
    ∑ t : Fin s, tally (rowsAt b t.val (h t) X) E j = tally X E j := by
  subst hn
  unfold tally count
  rw [← finProdFinEquiv.sum_comp, Fintype.sum_prod_type]
  refine Finset.sum_congr rfl fun t _ => Finset.sum_congr rfl fun r _ => ?_
  rw [picked_rowsAt]
  have e : (⟨t.val * b + r.val, by have := h t; have := r.isLt; omega⟩ : Fin (s * b)) = finProdFinEquiv (t, r) :=
    Fin.ext (by simp [finProdFinEquiv, Nat.mul_comm, Nat.add_comm])
  rw [e]

/-! ## What a block of rows leaves -/

/-- The product of the one-hot rows with the codebook is the nearest rows. -/
theorem sum_word (f : Fin 8192 → EReal) (g : Fin 8192 → EReal) :
    ∑ k : Fin 8192, FloatOps.sitofp (F := Ideal) .f32 (BitVec.setWidth 32 (IntOp.cmpi .eq (BitVec.ofNat 32 k.val)
      (Finset.univ.fold IntOp.minsi 2147483647#32 fun l : Fin 8192 =>
        if f l ≤ Finset.univ.fold min (Ideal.ofBits .f32 0x7F800000#32) f then BitVec.ofNat 32 l.val else 8192#32))) * g k
      = g (code f) := by
  simp only [oneHot_word]
  exact sum_oneHot _ _

/-- Counts that start at the first block's tally and add each next block's end at the tally of all rows. -/
theorem tally_run (s : Nat) (hn : (s + 1) * b = n) (h : ∀ t, t < s + 1 → t * b + b ≤ n)
    (C : (t : Nat) → t < s + 1 → (⟨2, ![1, 8192]⟩ : Shape).Idx → EReal)
    (h0 : C 0 (Nat.succ_pos s) = tally (rowsAt b 0 (h 0 (Nat.succ_pos s)) X) E)
    (hs : ∀ t (ht : t + 1 < s + 1), C (t + 1) ht = fun j => C t (Nat.lt_of_succ_lt ht) j + tally (rowsAt b (t + 1) (h _ ht) X) E j) :
    C s (Nat.lt_succ_self s) = tally X E := by
  have key : ∀ t (ht : t < s + 1), C t ht = fun j => ∑ u : Fin (t + 1),
      tally (rowsAt b u.val (h u.val (Nat.lt_of_lt_of_le u.isLt ht)) X) E j := by
    intro t
    induction t with
    | zero => intro ht; rw [h0]; funext j; rw [Fin.sum_univ_one]; rfl
    | succ t ih => intro ht; rw [hs, ih]; funext j; rw [Fin.sum_univ_castSucc (n := t + 1)]; rfl
  rw [key]
  funext j
  exact sum_tally X E (s + 1) hn _ j

end Cert.Codebook

end
-- ==== Proof.Blocks.lean ====
/-
  Blocks of whole rows: where a block's index lies in its array. What a search's side operands hold.
-/
module

public import proofs.«01_k».proof.Proof.Codebook
public import Idealize.ShloMosaic.Lib.Pipeline.Value

@[expose] public section

noncomputable section

namespace Cert.Codebook

open Idealize.ShloMosaic

variable {n b k t : Nat}

/-- The place in the array of an index of block `t`, of `b` rows. -/
theorem place_rows {w : Fin 2 → Nat} (hw : w = ![t, 0]) (inb : ∀ a, w a * (![b, k] : Fin 2 → Nat) a + (![b, k] : Fin 2 → Nat) a ≤ (⟨2, ![n, k]⟩ : Shape).size a)
    (h : t * b + b ≤ n) (j : (⟨2, ![b, k]⟩ : Shape).Idx) :
    (Rect.unit (s := ⟨2, ![n, k]⟩) (fun a => w a * (![b, k] : Fin 2 → Nat) a) ![b, k] inb).idx j
      = ix2 ⟨t * b + (j 0).val, by have h0 : (j 0).val < b := (j 0).isLt; omega⟩ (j 1) := by
  subst hw
  funext a
  apply Fin.ext
  match a with
  | ⟨0, _⟩ => show t * b + 1 * (j 0).val = _; rw [one_mul]; rfl
  | ⟨1, _⟩ => show 0 * k + 1 * (j 1).val = (j 1).val; omega

/-- The side operands hold the codebook transposed and the squared lengths of the rows and of the codes. -/
structure Sides (x : (⟨2, ![b, 64]⟩ : Shape).Idx → EReal) (e : (⟨2, ![8192, 64]⟩ : Shape).Idx → EReal) (et : (⟨2, ![64, 8192]⟩ : Shape).Idx → EReal)
    (xx : (⟨2, ![b, 1]⟩ : Shape).Idx → EReal) (ee : (⟨2, ![1, 8192]⟩ : Shape).Idx → EReal) : Prop where
  et : ∀ c k, et (ix2 c k) = e (ix2 k c)
  xx : ∀ r, xx (ix2 r 0) = ∑ c, x (ix2 r c) * x (ix2 r c)
  ee : ∀ k, ee (ix2 0 k) = ∑ c, e (ix2 k c) * e (ix2 k c)

end Cert.Codebook

namespace Cert

open Idealize.ShloMosaic Idealize.ShloMosaic.Pipeline

open Idealize.SL Idealize.SL.RA in
/-- A block that one point alone writes back is in the end what that point wrote. -/
theorem last_block {nD : Nat} {τ : Topo} {sig : RefSig} {Val : EltTy → Type} {Ix : Type} [DecidableEq Ix] {Name : Type} [DecidableEq Name] {U : Type} [URA U]
    {Lvl : Type} {Λ : Sem.Labels} {cfg : Cfg sig Λ} {c : Dev nD} (dat : Dat τ Val Ix Name U Lvl cfg c) (w : Fin cfg.W) (l : Fin cfg.N)
    (hl : (cfg.win w).flush l = true) (h : ∀ t : Fin cfg.N, (cfg.win w).flush t = true → t.val = l.val) :
    ((cfg.win w).blk l).view.read Val (dat.arrAt w cfg.N) = dat.flushed w l :=
  dat.read_blk_arrAt_eq_flushed w (fun t t' ht ht' ne => absurd (Fin.ext ((h t ht).trans (h t' ht').symm)) ne) cfg.N l l.isLt hl

end Cert

end
-- ==== Proof.SearchBlock.lean ====
/-
  What one block of rows leaves, at any number of rows, and what the blocks leave together.
-/
module

public import proofs.«01_k».proof.Proof.Blocks
public import Idealize.ShloMosaic.Lib.Tactic

@[expose] public section

set_option maxRecDepth 16384

noncomputable section

namespace Cert.Codebook

open Idealize.ShloMosaic

section Payload

variable {b : Nat}

/-- A column spread along the lanes. -/
theorem spread_apply {α : Type} (h : (⟨2, ![b, 1]⟩ : Shape).Broadcasts ⟨2, ![b, 8192]⟩) (v : (⟨2, ![b, 1]⟩ : Shape).Idx → α) (r : Fin b) (k : Fin 8192) :
    broadcastTo ⟨2, ![b, 8192]⟩ v h (ix2 r k) = v (ix2 r 0) :=
  broadcastTo_apply v h _ _ fun a => by
    match a with
    | ⟨0, _⟩ =>
      show r.val = if b = 1 then 0 else r.val
      have := r.isLt
      split <;> omega
    | ⟨1, _⟩ => rfl

/-- A vector cast to a column. -/
theorem column_apply {α : Type} (h : (⟨1, ![b]⟩ : Shape).ShapeCasts ⟨2, ![b, 1]⟩) (v : (⟨1, ![b]⟩ : Shape).Idx → α) (r : Fin b) :
    shapeCast ⟨2, ![b, 1]⟩ v h (ix2 r 0) = v (ix1 r) :=
  shapeCast_apply v h _ _ (by
    rw [Shape.rowMajor_val_two, Shape.rowMajor_val_one]
    show r.val = r.val * 1 + 0
    omega)

/-- The one-hot rows of a block, from its distances. -/
def hot (g : FVec Ideal ⟨2, ![b, 8192]⟩ .f32) (hr : (⟨2, ![b, 8192]⟩ : Shape).Reduces [1] ⟨1, ![b]⟩) (hs : (⟨1, ![b]⟩ : Shape).ShapeCasts ⟨2, ![b, 1]⟩)
    (hb : (⟨2, ![b, 1]⟩ : Shape).Broadcasts ⟨2, ![b, 8192]⟩) (hi : (⟨2, ![b, 8192]⟩ : Shape).Iotas .tc 32 [1]) : FVec Ideal ⟨2, ![b, 8192]⟩ .f32 :=
  sitofp .f32 (extui 32 (cmpi .eq (iota .tc ⟨2, ![b, 8192]⟩ 32 [1] hi) (broadcastTo ⟨2, ![b, 8192]⟩ (shapeCast ⟨2, ![b, 1]⟩
    (multiReductionI .minsi [1] ⟨1, ![b]⟩ (select (cmpf .ole g (broadcastTo ⟨2, ![b, 8192]⟩ (shapeCast ⟨2, ![b, 1]⟩
      (multiReduction .minimumf [1] ⟨1, ![b]⟩ g 0x7F800000#32 hr (.inl rfl) rfl) hs) hb)) (iota .tc ⟨2, ![b, 8192]⟩ 32 [1] hi) (broadcast ⟨2, ![b, 8192]⟩ 8192#32))
      2147483647#32 hr rfl) hs) hb)) (by decide))

/-- An entry of the one-hot rows is one at the row's code and zero elsewhere. -/
theorem hot_apply (g : FVec Ideal ⟨2, ![b, 8192]⟩ .f32) (hr hs hb hi) (r : Fin b) (k : Fin 8192) :
    hot g hr hs hb hi (ix2 r k) = if code (fun k => g (ix2 r k)) = k then (1 : EReal) else 0 := by
  have hmin : multiReduction (F := Ideal) .minimumf [1] ⟨1, ![b]⟩ g 0x7F800000#32 hr (.inl rfl) rfl (ix1 r)
      = Finset.univ.fold min (Ideal.ofBits .f32 0x7F800000#32) fun k => g (ix2 r k) := by pointwise
  have hmini : ∀ q : IVec ⟨2, ![b, 8192]⟩ 32, multiReductionI .minsi [1] ⟨1, ![b]⟩ q 2147483647#32 hr rfl (ix1 r)
      = Finset.univ.fold IntOp.minsi 2147483647#32 fun k => q (ix2 r k) := fun q => by pointwise
  have hio : ∀ k, iota .tc ⟨2, ![b, 8192]⟩ 32 [1] hi (ix2 r k) = BitVec.ofNat 32 k.val := fun k => by pointwise
  rw [← oneHot_word]
  show FloatOps.sitofp (F := Ideal) .f32 (BitVec.setWidth 32 (IntOp.cmpi .eq (iota .tc ⟨2, ![b, 8192]⟩ 32 [1] hi (ix2 r k)) _)) = _
  rw [spread_apply, column_apply, hmini, hio]
  refine congrArg (fun f => FloatOps.sitofp (F := Ideal) .f32 (BitVec.setWidth 32 (IntOp.cmpi .eq _ (Finset.univ.fold IntOp.minsi 2147483647#32 f)))) (funext fun l => ?_)
  show Scalar.select (FloatOps.cmpf .ole (g (ix2 r l)) _) _ 8192#32 = _
  rw [spread_apply, column_apply, hmin, hio]
  show (if BitVec.ofBool (decide (g (ix2 r l) ≤ _)) = 1#1 then _ else _) = _
  by_cases h : g (ix2 r l) ≤ Finset.univ.fold min (Ideal.ofBits .f32 0x7F800000#32) fun k => g (ix2 r k)
  · rw [decide_eq_true h, if_pos h]; rfl
  · rw [decide_eq_false h, if_neg h]; rfl

variable {x : FVec Ideal ⟨2, ![b, 64]⟩ .f32} {e : FVec Ideal ⟨2, ![8192, 64]⟩ .f32} {et : FVec Ideal ⟨2, ![64, 8192]⟩ .f32}
  {xx : FVec Ideal ⟨2, ![b, 1]⟩ .f32} {ee : FVec Ideal ⟨2, ![1, 8192]⟩ .f32}

/-- A block's distances. -/
def gap (d : DotDims ⟨2, ![b, 64]⟩ ⟨2, ![64, 8192]⟩ ⟨2, ![b, 8192]⟩) (hb : (⟨2, ![b, 1]⟩ : Shape).Broadcasts ⟨2, ![b, 8192]⟩)
    (hc : (⟨2, ![1, 8192]⟩ : Shape).Broadcasts ⟨2, ![b, 8192]⟩) (x : FVec Ideal ⟨2, ![b, 64]⟩ .f32) (et : FVec Ideal ⟨2, ![64, 8192]⟩ .f32)
    (xx : FVec Ideal ⟨2, ![b, 1]⟩ .f32) (ee : FVec Ideal ⟨2, ![1, 8192]⟩ .f32) : FVec Ideal ⟨2, ![b, 8192]⟩ .f32 :=
  subf (addf (broadcastTo ⟨2, ![b, 8192]⟩ xx hb) (broadcastTo ⟨2, ![b, 8192]⟩ ee hc))
    (mulf (broadcast ⟨2, ![b, 8192]⟩ (Scalar.ofBits .f32 0x40000000#32)) (matmul d none x et (constant ⟨2, ![b, 8192]⟩ .f32 0x00000000#32)))

/-- What `matmul` computes at plain dimension numbers: the sum of products. -/
def Plain {p q s : Nat} (d : DotDims ⟨2, ![p, q]⟩ ⟨2, ![q, s]⟩ ⟨2, ![p, s]⟩) (pr : Option ContractPrecision) : Prop :=
  ∀ (x : FVec Ideal ⟨2, ![p, q]⟩ .f32) (y : FVec Ideal ⟨2, ![q, s]⟩ .f32) (r : Fin p) (c : Fin s),
    matmul d pr x y (constant ⟨2, ![p, s]⟩ .f32 0x00000000#32) (ix2 r c) = ∑ k, x (ix2 r k) * y (ix2 k c)

theorem gap_apply {d hb hc} (hd : Plain d none) (h : Sides x e et xx ee) (r : Fin b) (k : Fin 8192) :
    gap d hb hc x et xx ee (ix2 r k) = dist x e r k := by
  have hrow : broadcastTo ⟨2, ![b, 8192]⟩ ee hc (ix2 r k) = ee (ix2 0 k) := broadcastTo_apply ee hc _ _ fun a => by
    match a with
    | ⟨0, _⟩ => rfl
    | ⟨1, _⟩ => rfl
  show (_ + _) - _ * _ = _
  rw [spread_apply, hrow, hd, h.xx, h.ee]
  simp only [h.et]
  rfl

theorem hot_gap {d hb hc hr hs hb' hi} (hd : Plain d none) (h : Sides x e et xx ee) (r : Fin b) (k : Fin 8192) :
    hot (gap d hb hc x et xx ee) hr hs hb' hi (ix2 r k) = if picked x e r = k then (1 : EReal) else 0 := by
  rw [hot_apply]
  simp only [gap_apply hd h]
  rfl

/-- The product of a block's one-hot rows with the codebook is the block's nearest rows. -/
theorem block_rows {d hb hc hr hs hb' hi d2} (hd : Plain d none) (hd2 : Plain d2 (some .fp32)) (h : Sides x e et xx ee) :
    matmul d2 (some .fp32) (hot (gap d hb hc x et xx ee) hr hs hb' hi) e (constant ⟨2, ![b, 64]⟩ .f32 0x00000000#32) = near x e := by
  funext j
  obtain ⟨r, c, rfl⟩ : ∃ (r : Fin b) (c : Fin 64), j = ix2 r c := ⟨j 0, j 1, eq_ix2 j⟩
  rw [hd2]
  simp only [hot_gap hd h]
  exact sum_oneHot (picked x e r) fun k => e (ix2 k c)

/-- The sums of a block's one-hot rows are the block's tally. -/
theorem block_counts {d hb hc hr hs hb' hi} (hd : Plain d none) (h : Sides x e et xx ee)
    (hq : (⟨2, ![b, 8192]⟩ : Shape).Reduces [0] ⟨1, ![8192]⟩) (hl : (⟨1, ![8192]⟩ : Shape).ShapeCasts ⟨2, ![1, 8192]⟩) :
    shapeCast ⟨2, ![1, 8192]⟩ (multiReduction .add [0] ⟨1, ![8192]⟩ (hot (gap d hb hc x et xx ee) hr hs hb' hi) 0x00000000#32 hq (.inl rfl) rfl) hl
      = tally x e := by
  funext j
  obtain ⟨z, k, rfl⟩ : ∃ (z : Fin 1) (k : Fin 8192), j = ix2 z k := ⟨j 0, j 1, eq_ix2 j⟩
  have hsum : ∀ q : FVec Ideal ⟨2, ![b, 8192]⟩ .f32, shapeCast ⟨2, ![1, 8192]⟩ (multiReduction .add [0] ⟨1, ![8192]⟩ q 0x00000000#32 hq (.inl rfl) rfl) hl (ix2 z k)
      = ∑ r, q (ix2 r k) := fun q => by pointwise
  rw [hsum]
  exact Finset.sum_congr rfl fun r _ => hot_gap hd h r k

end Payload

/-! ## All blocks -/

section Launch

variable {n b N k : Nat}

/-- `B` is block `t` of the rows of `A`. -/
def Tile {α : Type} (A : (⟨2, ![n, k]⟩ : Shape).Idx → α) (B : (⟨2, ![b, k]⟩ : Shape).Idx → α) (t : Nat) : Prop :=
  ∃ (w : Fin 2 → Nat) (inb : ∀ a, w a * (![b, k] : Fin 2 → Nat) a + (![b, k] : Fin 2 → Nat) a ≤ (⟨2, ![n, k]⟩ : Shape).size a),
    w = ![t, 0] ∧ ∀ j, B j = A ((Rect.unit (s := ⟨2, ![n, k]⟩) (fun a => w a * (![b, k] : Fin 2 → Nat) a) ![b, k] inb).idx j)

theorem Tile.le {α : Type} {A : (⟨2, ![n, k]⟩ : Shape).Idx → α} {B : (⟨2, ![b, k]⟩ : Shape).Idx → α} {t : Nat} (h : Tile A B t) : t * b + b ≤ n := by
  obtain ⟨w, inb, rfl, -⟩ := h
  exact inb 0

theorem Tile.apply {α : Type} {A : (⟨2, ![n, k]⟩ : Shape).Idx → α} {B : (⟨2, ![b, k]⟩ : Shape).Idx → α} {t : Nat} (h : Tile A B t) (r : Fin b) (c : Fin k) :
    B (ix2 r c) = A (ix2 ⟨t * b + r.val, by have := h.le; have := r.isLt; omega⟩ c) := by
  have hle := h.le
  obtain ⟨w, inb, hw, h⟩ := h
  exact (h _).trans (congrArg A (place_rows hw inb hle (ix2 r c)))

/-- The one tile of an array that is one is the array. -/
theorem Tile.whole {α : Type} {A B : (⟨2, ![n, k]⟩ : Shape).Idx → α} (h : Tile A B 0) : B = A := by
  funext j
  obtain ⟨r, c, rfl⟩ : ∃ (r : Fin n) (c : Fin k), j = ix2 r c := ⟨j 0, j 1, eq_ix2 j⟩
  rw [h.apply]
  exact congrArg (fun q => A (ix2 q c)) (Fin.ext (by simp))

/-- What a search's launch reads and leaves, point by point: the operands' blocks, the two outputs after each point, the two arrays at the end. -/
structure Launch (n b N : Nat) (X : (⟨2, ![n, 64]⟩ : Shape).Idx → EReal) (E : (⟨2, ![8192, 64]⟩ : Shape).Idx → EReal)
    (x : Fin N → (⟨2, ![b, 64]⟩ : Shape).Idx → EReal) (xx : Fin N → (⟨2, ![b, 1]⟩ : Shape).Idx → EReal)
    (et : Fin N → (⟨2, ![64, 8192]⟩ : Shape).Idx → EReal) (ee : Fin N → (⟨2, ![1, 8192]⟩ : Shape).Idx → EReal) (e : Fin N → (⟨2, ![8192, 64]⟩ : Shape).Idx → EReal)
    (xs : (⟨2, ![n, 1]⟩ : Shape).Idx → EReal) (ts : (⟨2, ![64, 8192]⟩ : Shape).Idx → EReal) (es : (⟨2, ![1, 8192]⟩ : Shape).Idx → EReal) : Prop where
  rows : ∀ t : Fin N, Tile X (x t) t.val
  squares : ∀ t : Fin N, Tile xs (xx t) t.val
  turned : ∀ t : Fin N, Tile ts (et t) 0
  lengths : ∀ t : Fin N, Tile es (ee t) 0
  codes : ∀ t : Fin N, Tile E (e t) 0
  squares_eq : ∀ r, xs (ix2 r 0) = ∑ c, X (ix2 r c) * X (ix2 r c)
  turned_eq : ∀ c k, ts (ix2 c k) = E (ix2 k c)
  lengths_eq : ∀ k, es (ix2 0 k) = ∑ c, E (ix2 k c) * E (ix2 k c)

variable {X : (⟨2, ![n, 64]⟩ : Shape).Idx → EReal} {E : (⟨2, ![8192, 64]⟩ : Shape).Idx → EReal}
  {x : Fin N → (⟨2, ![b, 64]⟩ : Shape).Idx → EReal} {xx : Fin N → (⟨2, ![b, 1]⟩ : Shape).Idx → EReal}
  {et : Fin N → (⟨2, ![64, 8192]⟩ : Shape).Idx → EReal} {ee : Fin N → (⟨2, ![1, 8192]⟩ : Shape).Idx → EReal} {e : Fin N → (⟨2, ![8192, 64]⟩ : Shape).Idx → EReal}
  {xs : (⟨2, ![n, 1]⟩ : Shape).Idx → EReal} {ts : (⟨2, ![64, 8192]⟩ : Shape).Idx → EReal} {es : (⟨2, ![1, 8192]⟩ : Shape).Idx → EReal}

namespace Launch

theorem eq_rowsAt (L : Launch n b N X E x xx et ee e xs ts es) (t : Fin N) : x t = rowsAt b t.val (L.rows t).le X := by
  funext j
  obtain ⟨r, c, rfl⟩ : ∃ (r : Fin b) (c : Fin 64), j = ix2 r c := ⟨j 0, j 1, eq_ix2 j⟩
  exact (L.rows t).apply r c

theorem eq_codes (L : Launch n b N X E x xx et ee e xs ts es) (t : Fin N) : e t = E := (L.codes t).whole

theorem sides (L : Launch n b N X E x xx et ee e xs ts es) (t : Fin N) : Sides (x t) E (et t) (xx t) (ee t) where
  et c k := by rw [(L.turned t).whole, L.turned_eq]
  xx r := by
    rw [(L.squares t).apply, L.squares_eq]
    exact Finset.sum_congr rfl fun c _ => by rw [(L.rows t).apply]
  ee k := by rw [(L.lengths t).whole, L.lengths_eq]

/-- An array whose every block the points left at the block's nearest rows holds the nearest rows. -/
theorem rows_end (L : Launch n b N X E x xx et ee e xs ts es) (hn : N * b = n) {A : (⟨2, ![n, 64]⟩ : Shape).Idx → EReal}
    {B : Fin N → (⟨2, ![b, 64]⟩ : Shape).Idx → EReal} (hB : ∀ t, B t = near (x t) E) (hA : ∀ t : Fin N, Tile A (B t) t.val) : A = near X E := by
  funext j
  obtain ⟨r, c, rfl⟩ : ∃ (r : Fin n) (c : Fin 64), j = ix2 r c := ⟨j 0, j 1, eq_ix2 j⟩
  have hr := r.isLt
  have hb : 0 < b := Nat.pos_of_ne_zero fun h => by subst h; omega
  have ht : r.val / b < N := Nat.div_lt_of_lt_mul (by rw [Nat.mul_comm]; omega)
  have h := (hA ⟨r.val / b, ht⟩).apply ⟨r.val % b, Nat.mod_lt _ hb⟩ c
  replace h := (congrFun ((hB _).trans (congrArg (near · E) (L.eq_rowsAt _))) _).symm.trans h
  rw [near_rowsAt] at h
  have hq : r.val / b * b + r.val % b = r.val := by rw [Nat.mul_comm]; exact Nat.div_add_mod _ _
  have e : ∀ G : (⟨2, ![n, 64]⟩ : Shape).Idx → EReal, ∀ hlt, G (ix2 ⟨r.val / b * b + r.val % b, hlt⟩ c) = G (ix2 r c) := fun G hlt =>
    congrArg (fun q => G (ix2 q c)) (Fin.ext hq)
  rw [← e A (hq.symm ▸ hr), ← h, ← e (near X E) (hq.symm ▸ hr)]
  rfl

/-- Counts that start at the first block's tally and add each next block's end at the tally. -/
theorem counts_end (L : Launch n b N X E x xx et ee e xs ts es) (hn : N * b = n) {C : (t : Nat) → t < N → (⟨2, ![1, 8192]⟩ : Shape).Idx → EReal}
    (h0 : ∀ t : Fin N, t.val = 0 → C t.val t.isLt = tally (x t) E)
    (hs : ∀ t : Fin N, t.val ≠ 0 → C t.val t.isLt = fun j => C (t.val - 1) (Nat.lt_of_le_of_lt (Nat.sub_le _ _) t.isLt) j + tally (x t) E j)
    {A : (⟨2, ![1, 8192]⟩ : Shape).Idx → EReal} (l : Fin N) (hl : l.val + 1 = N) (hA : Tile A (C l.val l.isLt) 0) : A = tally X E := by
  obtain ⟨s, hs'⟩ := l
  obtain rfl : N = s + 1 := hl.symm
  rw [← hA.whole]
  refine tally_run X E s hn (fun t ht => (L.rows ⟨t, ht⟩).le) C ((h0 ⟨0, Nat.succ_pos s⟩ rfl).trans ?_) fun t ht => (hs ⟨t + 1, ht⟩ (Nat.succ_ne_zero t)).trans ?_
  · exact congrArg (tally · E) (L.eq_rowsAt _)
  · exact funext fun j => congrArg (C t _ j + tally · E j) (L.eq_rowsAt _)

end Launch

end Launch

end Cert.Codebook

end
-- ==== Proof.SearchRef.lean ====
/-
  What the host reference of a search computes, at any number of rows: the nearest codebook rows and the tally.
-/
module

public import proofs.«01_k».proof.Proof.Codebook

@[expose] public section

set_option maxRecDepth 16384

noncomputable section

namespace Cert.Codebook

open Idealize.ShloMosaic

variable {n : Nat}

/-- The codes as words. -/
def codes (x : FVec Ideal (⟨2, ![n, 64]⟩ : Shape) .f32) (e : FVec Ideal (⟨2, ![8192, 64]⟩ : Shape) .f32) : IVec (⟨1, ![n]⟩ : Shape) 32 := fun j => BitVec.ofNat 32 (picked x e (j 0)).val

theorem codes_apply (x : FVec Ideal (⟨2, ![n, 64]⟩ : Shape) .f32) (e : FVec Ideal (⟨2, ![8192, 64]⟩ : Shape) .f32) (r : Fin n) :
    codes x e (ix1 r) = BitVec.ofNat 32 (picked x e r).val := rfl

/-- A multi-index of rank one or two by its coordinates, at any extents. -/
theorem ix1_of (j : (⟨1, ![n]⟩ : Shape).Idx) : ∃ r : Fin n, j = ix1 r := ⟨j 0, funext fun a => by match a with | ⟨0, _⟩ => rfl⟩
theorem ix2_of {k : Nat} (j : (⟨2, ![n, k]⟩ : Shape).Idx) : ∃ (r : Fin n) (c : Fin k), j = ix2 r c :=
  ⟨j 0, j 1, funext fun a => by match a with | ⟨0, _⟩ => rfl | ⟨1, _⟩ => rfl⟩

/-- A column broadcast along the lanes. -/
theorem col_apply {α : Type} (b : (⟨2, ![n, 1]⟩ : Shape).BroadcastsInDim ⟨2, ![n, 8192]⟩ ![0, 1]) (v : (⟨2, ![n, 1]⟩ : Shape).Idx → α) (r : Fin n)
    (k : Fin 8192) : broadcastInDim ⟨2, ![n, 8192]⟩ ![0, 1] b v (ix2 r k) = v (ix2 r 0) :=
  broadcastInDim_apply _ _ _ _ _ fun a => by
    match a with
    | ⟨0, _⟩ =>
      show r.val = if n = 1 then 0 else r.val
      have := r.isLt
      split <;> omega
    | ⟨1, _⟩ => rfl

/-- A vector as a column. -/
theorem lift_apply {α : Type} (b : (⟨1, ![n]⟩ : Shape).BroadcastsInDim ⟨2, ![n, 1]⟩ ![0]) (v : (⟨1, ![n]⟩ : Shape).Idx → α) (r : Fin n) (z : Fin 1) :
    broadcastInDim ⟨2, ![n, 1]⟩ ![0] b v (ix2 r z) = v (ix1 r) :=
  broadcastInDim_apply _ _ _ _ _ fun a => by
    match a with
    | ⟨0, _⟩ =>
      show r.val = if n = 1 then 0 else r.val
      have := r.isLt
      split <;> omega

/-- A row broadcast along the rows. -/
theorem row_apply {α : Type} (b : (⟨2, ![1, 8192]⟩ : Shape).BroadcastsInDim ⟨2, ![n, 8192]⟩ ![0, 1]) (v : (⟨2, ![1, 8192]⟩ : Shape).Idx → α) (r : Fin n)
    (k : Fin 8192) : broadcastInDim ⟨2, ![n, 8192]⟩ ![0, 1] b v (ix2 r k) = v (ix2 0 k) :=
  broadcastInDim_apply _ _ _ _ _ fun a => by
    match a with
    | ⟨0, _⟩ => rfl
    | ⟨1, _⟩ => rfl

/-- The squared lengths of rows, as a column and as a row, and a transposed array. -/
theorem squares_apply {k : Nat} (x : FVec Ideal ⟨2, ![n, k]⟩ .f32) (hr : (⟨2, ![n, k]⟩ : Shape).ReducesTo [1] ⟨1, ![n]⟩) (hu : 0 < (⟨0, ![]⟩ : Shape).numel)
    (r : Fin n) : Host.reduceAdd (F := Ideal) (mulf x x) (constant ⟨0, ![]⟩ .f32 0x00000000#32) hr hu (ix1 r) = ∑ c, x (ix2 r c) * x (ix2 r c) := by pointwise

theorem squares_column {k : Nat} (x : FVec Ideal ⟨2, ![n, k]⟩ .f32) (hr : (⟨2, ![n, k]⟩ : Shape).ReducesTo [1] ⟨1, ![n]⟩) (hu : 0 < (⟨0, ![]⟩ : Shape).numel)
    (b : (⟨1, ![n]⟩ : Shape).BroadcastsInDim ⟨2, ![n, 1]⟩ ![0]) (r : Fin n) :
    broadcastInDim ⟨2, ![n, 1]⟩ ![0] b (Host.reduceAdd (F := Ideal) (mulf x x) (constant ⟨0, ![]⟩ .f32 0x00000000#32) hr hu) (ix2 r 0)
      = ∑ c, x (ix2 r c) * x (ix2 r c) := (lift_apply b _ r 0).trans (squares_apply x hr hu r)

theorem lengths_apply (e : FVec Ideal ⟨2, ![8192, 64]⟩ .f32) (hk : (⟨2, ![8192, 64]⟩ : Shape).ReducesTo [1] ⟨1, ![8192]⟩) (hu : 0 < (⟨0, ![]⟩ : Shape).numel)
    (b : (⟨1, ![8192]⟩ : Shape).BroadcastsInDim ⟨2, ![1, 8192]⟩ ![1]) (k : Fin 8192) :
    broadcastInDim ⟨2, ![1, 8192]⟩ ![1] b (Host.reduceAdd (F := Ideal) (mulf e e) (constant ⟨0, ![]⟩ .f32 0x00000000#32) hk hu) (ix2 0 k)
      = ∑ c, e (ix2 k c) * e (ix2 k c) := by pointwise

theorem turned_apply (e : FVec Ideal ⟨2, ![8192, 64]⟩ .f32) (ht : (⟨2, ![8192, 64]⟩ : Shape).Transposes [1, 0] ⟨2, ![64, 8192]⟩) (c : Fin 64) (k : Fin 8192) :
    transpose ⟨2, ![64, 8192]⟩ [1, 0] e ht (ix2 c k) = e (ix2 k c) := by pointwise

/-- What the host's product computes at plain dimension numbers: the sum of products. -/
def HostPlain {p q s : Nat} (d : DotDims ⟨2, ![p, q]⟩ ⟨2, ![q, s]⟩ ⟨2, ![p, s]⟩) : Prop :=
  ∀ (x : FVec Ideal ⟨2, ![p, q]⟩ .f32) (y : FVec Ideal ⟨2, ![q, s]⟩ .f32) (r : Fin p) (c : Fin s),
    Host.dotGeneral d none x y (ix2 r c) = ∑ k, x (ix2 r k) * y (ix2 k c)

variable (x : FVec Ideal (⟨2, ![n, 64]⟩ : Shape) .f32) (e : FVec Ideal (⟨2, ![8192, 64]⟩ : Shape) .f32)
  {R : Ideal .f32 × BitVec 32 → Ideal .f32 × BitVec 32 → Ideal .f32 × BitVec 32}
  {dd : DotDims (⟨2, ![n, 64]⟩ : Shape) (⟨2, ![64, 8192]⟩ : Shape) (⟨2, ![n, 8192]⟩ : Shape)} {gd : GatherDims (⟨2, ![8192, 64]⟩ : Shape) (⟨2, ![n, 1]⟩ : Shape) (⟨2, ![n, 64]⟩ : Shape)}
  {hu : 0 < (⟨0, ![]⟩ : Shape).numel} {hr : (⟨2, ![n, 64]⟩ : Shape).ReducesTo [1] (⟨1, ![n]⟩ : Shape)} {hk : (⟨2, ![8192, 64]⟩ : Shape).ReducesTo [1] (⟨1, ![8192]⟩ : Shape)} {hd : (⟨2, ![n, 8192]⟩ : Shape).ReducesTo [1] (⟨1, ![n]⟩ : Shape)} {hc : (⟨2, ![n, 8192]⟩ : Shape).ReducesTo [0] (⟨1, ![8192]⟩ : Shape)}
  {b1 : (⟨1, ![n]⟩ : Shape).BroadcastsInDim (⟨2, ![n, 1]⟩ : Shape) ![0]} {b2 : (⟨1, ![8192]⟩ : Shape).BroadcastsInDim (⟨2, ![1, 8192]⟩ : Shape) ![1]} {b3 : (⟨2, ![n, 1]⟩ : Shape).BroadcastsInDim (⟨2, ![n, 8192]⟩ : Shape) ![0, 1]}
  {b4 : (⟨2, ![1, 8192]⟩ : Shape).BroadcastsInDim (⟨2, ![n, 8192]⟩ : Shape) ![0, 1]} {b5 : (⟨0, ![]⟩ : Shape).BroadcastsInDim (⟨2, ![n, 8192]⟩ : Shape) ![]} {ht : (⟨2, ![8192, 64]⟩ : Shape).Transposes [1, 0] (⟨2, ![64, 8192]⟩ : Shape)}

/-- The reference's arg-min of its distances is the codes. -/
theorem ref_codes (hR : R = lesser) (hdot : HostPlain dd) :
    (fun j => (Host.argReduce (F := Ideal) R
      (subf (addf (broadcastInDim (⟨2, ![n, 8192]⟩ : Shape) ![0, 1] b3 (broadcastInDim (⟨2, ![n, 1]⟩ : Shape) ![0] b1 (Host.reduceAdd (mulf x x) (constant (⟨0, ![]⟩ : Shape) .f32 0x00000000#32) hr hu)))
          (broadcastInDim (⟨2, ![n, 8192]⟩ : Shape) ![0, 1] b4 (broadcastInDim (⟨2, ![1, 8192]⟩ : Shape) ![1] b2 (Host.reduceAdd (mulf e e) (constant (⟨0, ![]⟩ : Shape) .f32 0x00000000#32) hk hu))))
        (mulf (broadcastInDim (⟨2, ![n, 8192]⟩ : Shape) ![] b5 (constant (⟨0, ![]⟩ : Shape) .f32 0x40000000#32)) (Host.dotGeneral dd none x (transpose (⟨2, ![64, 8192]⟩ : Shape) [1, 0] e ht))))
      (iotaInDim (⟨2, ![n, 8192]⟩ : Shape) 32 1) (constant (⟨0, ![]⟩ : Shape) .f32 0x7F800000#32) (constantI (⟨0, ![]⟩ : Shape) 32 0#32) hd hu j).2) = codes x e := by
  subst hR
  funext j
  obtain ⟨r, rfl⟩ := ix1_of j
  refine (argmin_apply _ (iotaInDim ⟨2, ![n, 8192]⟩ 32 1) (constant ⟨0, ![]⟩ .f32 0x7F800000#32) (constantI ⟨0, ![]⟩ 32 0#32)
    hd hu (fun _ _ => rfl) (fun _ => rfl) (fun _ => rfl) r).trans ?_
  refine congrArg (fun f => BitVec.ofNat 32 (code f).val) (funext fun k => ?_)
  show (_ + _) - _ * _ = dist x e r k
  rw [col_apply, lift_apply, row_apply, hdot, Finset.sum_congr rfl fun c _ => congrArg (x (ix2 r c) * ·) (turned_apply e ht c k)]
  rw [squares_apply, lengths_apply]
  rfl

/-- The reference's codebook rows at the codes are the nearest rows. -/
theorem ref_rows (hoff : gd.offsetDims = [1]) (hcoll : gd.collapsedSliceDims = [0]) (hob : gd.operandBatchingDims = []) (hsim : gd.startIndexMap = [0])
    (hivd : gd.indexVectorDim = 1) : Host.gather gd e (broadcastInDim (⟨2, ![n, 1]⟩ : Shape) ![0] b1 (codes x e)) = near x e := by
  funext j
  obtain ⟨r, c, rfl⟩ := ix2_of j
  exact Routing.gather_row gd hoff hcoll hob hsim hivd _ _ r c (picked x e r) (lift_apply b1 _ r 0) (by norm_num)

/-- The reference's sums of comparisons with the codes are the tally. -/
theorem ref_counts : broadcastInDim (⟨2, ![1, 8192]⟩ : Shape) ![1] b2 (Host.reduceAdd (uitofp .f32 (cmpi .eq
      (broadcastInDim (⟨2, ![n, 8192]⟩ : Shape) ![0, 1] b3 (broadcastInDim (⟨2, ![n, 1]⟩ : Shape) ![0] b1 (codes x e)))
      (broadcastInDim (⟨2, ![n, 8192]⟩ : Shape) ![0, 1] b4 (broadcastInDim (⟨2, ![1, 8192]⟩ : Shape) ![1] b2 (iotaInDim (⟨1, ![8192]⟩ : Shape) 32 0)))))
      (constant (F := Ideal) (⟨0, ![]⟩ : Shape) .f32 0x00000000#32) hc hu) = tally x e := by
  funext j
  obtain ⟨j0, j1, rfl⟩ := ix2_of j
  have h : broadcastInDim ⟨2, ![1, 8192]⟩ ![1] b2 (Host.reduceAdd (F := Ideal) (uitofp .f32 (cmpi .eq
      (broadcastInDim ⟨2, ![n, 8192]⟩ ![0, 1] b3 (broadcastInDim ⟨2, ![n, 1]⟩ ![0] b1 (codes x e)))
      (broadcastInDim ⟨2, ![n, 8192]⟩ ![0, 1] b4 (broadcastInDim ⟨2, ![1, 8192]⟩ ![1] b2 (iotaInDim ⟨1, ![8192]⟩ 32 0)))))
      (constant ⟨0, ![]⟩ .f32 0x00000000#32) hc hu) (ix2 j0 j1) = ∑ r, uitofp (F := Ideal) .f32 (cmpi .eq
      (broadcastInDim ⟨2, ![n, 8192]⟩ ![0, 1] b3 (broadcastInDim ⟨2, ![n, 1]⟩ ![0] b1 (codes x e)))
      (broadcastInDim ⟨2, ![n, 8192]⟩ ![0, 1] b4 (broadcastInDim ⟨2, ![1, 8192]⟩ ![1] b2 (iotaInDim ⟨1, ![8192]⟩ 32 0)))) (ix2 r j1) := by
    generalize uitofp (F := Ideal) .f32 _ = q
    pointwise
  rw [h]
  refine Finset.sum_congr rfl fun r _ => ?_
  refine Eq.trans ?_ (eq_word (picked x e r) j1)
  show FloatOps.uitofp .f32 (IntOp.cmpi .eq _ _) = _
  rw [col_apply, lift_apply, row_apply]
  have hl : broadcastInDim ⟨2, ![1, 8192]⟩ ![1] b2 (iotaInDim ⟨1, ![8192]⟩ 32 0) (ix2 0 j1) = BitVec.ofNat 32 j1.val := by pointwise
  rw [hl, codes_apply]

/-- The reference's first result. -/
theorem ref_near (hR : R = lesser) (hdot : HostPlain dd)
    (hoff : gd.offsetDims = [1]) (hcoll : gd.collapsedSliceDims = [0]) (hob : gd.operandBatchingDims = []) (hsim : gd.startIndexMap = [0])
    (hivd : gd.indexVectorDim = 1) : Host.gather gd e (broadcastInDim ⟨2, ![n, 1]⟩ ![0] b1
      (fun j => (Host.argReduce (F := Ideal) R
      (subf (addf (broadcastInDim ⟨2, ![n, 8192]⟩ ![0, 1] b3 (broadcastInDim ⟨2, ![n, 1]⟩ ![0] b1 (Host.reduceAdd (mulf x x) (constant ⟨0, ![]⟩ .f32 0x00000000#32) hr hu)))
          (broadcastInDim ⟨2, ![n, 8192]⟩ ![0, 1] b4 (broadcastInDim ⟨2, ![1, 8192]⟩ ![1] b2 (Host.reduceAdd (mulf e e) (constant ⟨0, ![]⟩ .f32 0x00000000#32) hk hu))))
        (mulf (broadcastInDim ⟨2, ![n, 8192]⟩ ![] b5 (constant ⟨0, ![]⟩ .f32 0x40000000#32)) (Host.dotGeneral dd none x (transpose ⟨2, ![64, 8192]⟩ [1, 0] e ht))))
      (iotaInDim ⟨2, ![n, 8192]⟩ 32 1) (constant ⟨0, ![]⟩ .f32 0x7F800000#32) (constantI ⟨0, ![]⟩ 32 0#32) hd hu j).2)) = near x e := by
  rw [ref_codes x e hR hdot]
  exact ref_rows x e hoff hcoll hob hsim hivd

/-- The reference's second result. -/
theorem ref_tally (hR : R = lesser) (hdot : HostPlain dd) :
    broadcastInDim ⟨2, ![1, 8192]⟩ ![1] b2 (Host.reduceAdd (uitofp .f32 (cmpi .eq
      (broadcastInDim ⟨2, ![n, 8192]⟩ ![0, 1] b3 (broadcastInDim ⟨2, ![n, 1]⟩ ![0] b1
      (fun j => (Host.argReduce (F := Ideal) R
      (subf (addf (broadcastInDim ⟨2, ![n, 8192]⟩ ![0, 1] b3 (broadcastInDim ⟨2, ![n, 1]⟩ ![0] b1 (Host.reduceAdd (mulf x x) (constant ⟨0, ![]⟩ .f32 0x00000000#32) hr hu)))
          (broadcastInDim ⟨2, ![n, 8192]⟩ ![0, 1] b4 (broadcastInDim ⟨2, ![1, 8192]⟩ ![1] b2 (Host.reduceAdd (mulf e e) (constant ⟨0, ![]⟩ .f32 0x00000000#32) hk hu))))
        (mulf (broadcastInDim ⟨2, ![n, 8192]⟩ ![] b5 (constant ⟨0, ![]⟩ .f32 0x40000000#32)) (Host.dotGeneral dd none x (transpose ⟨2, ![64, 8192]⟩ [1, 0] e ht))))
      (iotaInDim ⟨2, ![n, 8192]⟩ 32 1) (constant ⟨0, ![]⟩ .f32 0x7F800000#32) (constantI ⟨0, ![]⟩ 32 0#32) hd hu j).2)))
      (broadcastInDim ⟨2, ![n, 8192]⟩ ![0, 1] b4 (broadcastInDim ⟨2, ![1, 8192]⟩ ![1] b2 (iotaInDim ⟨1, ![8192]⟩ 32 0)))))
      (constant (F := Ideal) ⟨0, ![]⟩ .f32 0x00000000#32) hc hu) = tally x e := by
  rw [ref_codes x e hR hdot]
  exact ref_counts x e

end Cert.Codebook

end
-- ==== Proof.Line.lean ====
/-
  A straight line of host operations taken from the printed @main itself: `Line p ops` says that the program `p` runs
  the operations `ops` in order, with what a run of such a list needs. A printed @main's line is found one operation at
  a time, a call of a module-local function by the function's own line.
-/
module

public import Idealize.ShloMosaic.Lib.StableHlo.Run

@[expose] public section

noncomputable section

namespace Cert

open Idealize.ShloMosaic Idealize.ShloMosaic.StableHlo Idealize.SL.Sem

variable {nD : Nat} {τ : Topo} {sig : RefSig} {Val : EltTy → Type} {Λ : Labels}

/-- An operation that names buffers of the TensorCore only and allocates none. -/
class Ours (op : HloOp τ sig Val) : Prop where
  sub : op.bufs ⊆ tcRefs τ sig
  fresh : op.fresh = ∅

instance (y : Ref sig .tc) (v hy) : Ours (nullary (τ := τ) (Val := Val) y v hy) := ⟨nullary_bufs_sub .., rfl⟩
instance (x y : Ref sig .tc) (f hx hy) : Ours (unary (τ := τ) (Val := Val) x y f hx hy) := ⟨unary_bufs_sub .., rfl⟩
instance (a b y : Ref sig .tc) (f ha hb hy) : Ours (binary (τ := τ) (Val := Val) a b y f ha hb hy) := ⟨binary_bufs_sub .., rfl⟩
instance (a b c e y : Ref sig .tc) (f ha hb hc he hy) : Ours (quaternary (τ := τ) (Val := Val) a b c e y f ha hb hc he hy) := ⟨quaternary_bufs_sub .., rfl⟩
instance (x y : Ref sig .tc) (he hn hx hy) : Ours (reshape (τ := τ) (Val := Val) x y he hn hx hy) := ⟨reshape_bufs_sub .., rfl⟩
instance {n : Nat} (xs : Fin n → Ref sig .tc) (y : Ref sig .tc) (f hxs hy) : Ours (nary (τ := τ) (Val := Val) xs y f hxs hy) := ⟨nary_bufs_sub .., rfl⟩
instance {T : BufTy} (y : TRef sig T) (v) : Ours (TRef.nullary (τ := τ) (Val := Val) y v) := ⟨nullary_bufs_sub .., rfl⟩
instance {A T : BufTy} (x : TRef sig A) (y : TRef sig T) (f) : Ours (TRef.unary (τ := τ) (Val := Val) x y f) := ⟨unary_bufs_sub .., rfl⟩
instance {A B T : BufTy} (a : TRef sig A) (b : TRef sig B) (y : TRef sig T) (f) : Ours (TRef.binary (τ := τ) (Val := Val) a b y f) := ⟨binary_bufs_sub .., rfl⟩
instance {A B C E T : BufTy} (a : TRef sig A) (b : TRef sig B) (c : TRef sig C) (e : TRef sig E) (y : TRef sig T) (f) :
    Ours (TRef.quaternary (τ := τ) (Val := Val) a b c e y f) := ⟨quaternary_bufs_sub .., rfl⟩

/-- `p` runs the operations `ops` in order. -/
class Line (p : Prog (TpuEff nD τ sig Val Λ .tc) PUnit) (ops : outParam (List (HloOp τ sig Val))) : Prop where
  eq : p = seq ops
  sub : ops.Forall fun op => op.bufs ⊆ tcRefs τ sig
  fresh : ∀ op ∈ ops, op.fresh = ∅

namespace Line

instance nil : Line (pure ⟨⟩ : Prog (TpuEff nD τ sig Val Λ .tc) PUnit) [] := ⟨rfl, trivial, fun _ h => absurd h List.not_mem_nil⟩

instance one (op : HloOp τ sig Val) [o : Ours op] : Line (hlo rfl op (fun _ => .ret (⟨⟩ : PUnit)) : Prog (TpuEff nD τ sig Val Λ .tc) PUnit) [op] where
  eq := rfl
  sub := o.sub
  fresh := fun q h => by
    rcases List.mem_cons.1 h with rfl | h
    · exact o.fresh
    · exact absurd h List.not_mem_nil

instance cons {p : Prog (TpuEff nD τ sig Val Λ .tc) PUnit} {ops : List (HloOp τ sig Val)} (op : HloOp τ sig Val) [o : Ours op] [l : Line p ops] :
    Line (hlo rfl op (fun _ => .ret (⟨⟩ : PUnit)) >>= fun _ => p) (op :: ops) where
  eq := congrArg (fun q => (hlo rfl op (fun _ => .ret (⟨⟩ : PUnit)) : Prog _ PUnit) >>= fun _ => q) l.eq
  sub := (List.forall_cons _ _ _).mpr ⟨o.sub, l.sub⟩
  fresh := fun q h => by
    rcases List.mem_cons.1 h with rfl | h
    · exact o.fresh
    · exact l.fresh q h

instance (priority := low) call {p q : Prog (TpuEff nD τ sig Val Λ .tc) PUnit} {ops ops' : List (HloOp τ sig Val)} [l : Line p ops] [k : Line q ops'] :
    Line (p >>= fun _ => q) (ops ++ ops') where
  eq := (congrArg₂ (fun a b : Prog (TpuEff nD τ sig Val Λ .tc) PUnit => a >>= fun _ => b) l.eq k.eq).trans (seq_append _ _).symm
  sub := List.forall_iff_forall_mem.mpr fun o h => (List.mem_append.1 h).elim
    (List.forall_iff_forall_mem.mp l.sub o) (List.forall_iff_forall_mem.mp k.sub o)
  fresh := fun o h => (List.mem_append.1 h).elim (l.fresh o) (k.fresh o)

/-- A @main that is a line leaves every buffer at the fold of the operations over the launch's contents. -/
theorem run (hR : (Finset.univ.filter fun b : Ref sig .tc => b.isScoped) = ∅)
    (hC : (Finset.univ.filter fun sm : SemLoc sig => sm.isScoped .tc) = ∅) (defs : Defs nD τ sig Val Λ)
    (main : Dev nD → Prog (TpuEff nD τ sig Val Λ .tc) PUnit) {ops : List (HloOp τ sig Val)} (l : ∀ d, Line (main d) ops)
    (m : (ℓ : Loc nD τ sig) → Buf Val ℓ) (ρ : Dev nD → PrngReg) :
    θ_run defs (onTc (τ := τ) main) ⟨m, fun _ => 0, ρ⟩ fun r => ∀ (d : Dev nD) (b : Ref sig .tc),
      r.2.mem ((d.tc : Thread nD τ).loc b) = after ops (launchContents m d) (Proc.devRef .tc b) :=
  run_seq hR hC defs main (fun _ => ops) (fun d => (l d).eq) (fun d => (l d).sub) m ρ (fun d => (l d).fresh)

end Line

end Cert

end
-- ==== Proof.Search.lean ====
/-
  What the binding of one search to its program needs.
-/
module

public import proofs.«01_k».proof.Proof.SearchBlock
public import proofs.«01_k».proof.Proof.SearchRef
public import proofs.«01_k».proof.Proof.Line
public import Idealize.ShloMosaic.Lib.Pipeline.ValueKit
public import Idealize.ShloMosaic.Lib.Quiescent
public import Idealize.ShloMosaic.Lib.StableHlo.Run
public import Idealize.ShloMosaic.Lib.Tactic
-- ==== Proof.Search1.lean ====
/-
  The search over 4096 rows, in eight blocks of 512: its program bound to the lemmas on searches, and its claim.
-/
module

public import proofs.«01_k».proof.Proof.Search
public import proofs.«01_k».proof.Defs
public import proofs.«01_k».proof.Proof.Gen.KernelIdeal.Value
public import proofs.«01_k».proof.Proof.Gen.ReferenceIdeal

@[expose] public section

set_option maxRecDepth 16384

noncomputable section

namespace Cert.KernelIdeal.Value

open Cert.KernelIdeal Cert.KernelIdeal.Gen Cert.Codebook Idealize.ShloMosaic Idealize.ShloMosaic.TcCoe Idealize.SL.Sem

theorem plain : Plain dot_S512x64_S64x8192_S512x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 8 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S4096x64 .f32 := m ((c.tc : Thread nD τ).loc main_arg0)
abbrev E : FVec Ideal S8192x64 .f32 := m ((c.tc : Thread nD τ).loc main_arg1)

theorem launch : Launch 4096 512 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S4096x64_S4096_d1 h_S_ bcast_S4096_S4096x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t.val t.isLt).1 = near (iblk m c 0 t) (E m c) := by
  have ht : t.val < 8 := points ▸ t.isLt
  have hp := rows_pay ((launch m c).sides t)
  rw [← (launch m c).eq_codes t] at hp ⊢
  by_cases h : t.val = 0
  · rw [outsAt0_A m c t (by omega) (by omega)]
    frame_out
    exact hp
  · rw [outsAt0_B m c t (by omega) (by omega)]
    frame_out
    exact hp

theorem counts_first (t : Fin cfg0.N) (h : t.val = 0) : (outsAt0 m c t.val t.isLt).2 = tally (iblk m c 0 t) (E m c) := by
  rw [outsAt0_A m c t (by omega) (by omega)]
  frame_out
  exact counts_pay ((launch m c).sides t)

theorem counts_next (t : Fin cfg0.N) (h : t.val ≠ 0) : (outsAt0 m c t.val t.isLt).2
    = fun j => (outsAt0 m c (t.val - 1) (Nat.lt_of_le_of_lt (Nat.sub_le _ _) t.isLt)).2 j + tally (iblk m c 0 t) (E m c) j := by
  have ht : t.val < 8 := points ▸ t.isLt
  rw [outsAt0_B m c t (by omega) (by omega)]
  frame_out
  unfold k0_pay1
  rw [counts_pay ((launch m c).sides t), shapeCast_self]
  rfl

theorem final_rows : (dats m 0 c).arrAt 5 cfg0.N = near (X m c) (E m c) :=
  (launch m c).rows_end (congrArg (· * 512) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 7 < cfg0.N := points ▸ (by decide)
  (launch m c).counts_end (congrArg (· * 512) points) (C := fun t ht => (outsAt0 m c t ht).2) (counts_first m c) (counts_next m c) ⟨7, l⟩ points.symm
    ⟨_, _, (index_at ⟨7, l⟩).2.2.2.2, congrFun ((flushed6 m c ⟨7, l⟩).symm.trans (last_block (dats m 0 c) 6 ⟨7, l⟩ ((flush0_6 _).mpr rfl) fun t h => by
      have := (flush0_6 t).mp h
      have : t.val < 8 := points ▸ t.isLt
      dsimp only
      omega).symm)⟩

end Cert.KernelIdeal.Value

namespace Cert.ReferenceIdeal.Value

open Cert.ReferenceIdeal Cert.ReferenceIdeal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S4096x64_S64x8192_S4096x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S4096x1_S4096x64_1_0_n_n_0_1_164) (R := reducer_argmin_f32_i32) rfl dot rfl rfl rfl rfl rfl
  · exact ref_tally _ _ (R := reducer_argmin_f32_i32) rfl dot

/-- The reference runs and leaves its arguments. -/
theorem frame : Cert.quiescent_ReferenceIdeal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_KernelIdeal_ReferenceIdeal := fun m ρ m' ρ' _ hagree =>
  ⟨fun c => near (KernelIdeal.Value.X m c) (KernelIdeal.Value.E m c), fun c => tally (KernelIdeal.Value.X m c) (KernelIdeal.Value.E m c),
    (θ_run KernelIdeal.defs _ _).mono (fun _ h c => ⟨(h c).1.trans (KernelIdeal.Value.final_rows m c), (h c).2.1.trans (KernelIdeal.Value.final_counts m c),
      (h c).2.2⟩) (KernelIdeal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.ReferenceIdeal.Value

end
-- ==== Proof.Search2.lean ====
/-
  The search over 2704 rows, in thirteen blocks of 208: its program bound to the lemmas on searches, and its claim.
-/
module

public import proofs.«01_k».proof.Proof.Search
public import proofs.«01_k».proof.Defs
public import proofs.«01_k».proof.Proof.Gen.Kernel2Ideal.Value
public import proofs.«01_k».proof.Proof.Gen.Reference2Ideal

@[expose] public section

set_option maxRecDepth 16384

noncomputable section

namespace Cert.Kernel2Ideal.Value

open Cert.Kernel2Ideal Cert.Kernel2Ideal.Gen Cert.Codebook Idealize.ShloMosaic Idealize.ShloMosaic.TcCoe Idealize.SL.Sem

theorem plain : Plain dot_S208x64_S64x8192_S208x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 13 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S2704x64 .f32 := m ((c.tc : Thread nD τ).loc main_arg0)
abbrev E : FVec Ideal S8192x64 .f32 := m ((c.tc : Thread nD τ).loc main_arg1)

theorem launch : Launch 2704 208 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S2704x64_S2704_d1 h_S_ bcast_S2704_S2704x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t.val t.isLt).1 = near (iblk m c 0 t) (E m c) := by
  have ht : t.val < 13 := points ▸ t.isLt
  have hp := rows_pay ((launch m c).sides t)
  rw [← (launch m c).eq_codes t] at hp ⊢
  by_cases h : t.val = 0
  · rw [outsAt0_A m c t (by omega) (by omega)]
    frame_out
    exact hp
  · rw [outsAt0_B m c t (by omega) (by omega)]
    frame_out
    exact hp

theorem counts_first (t : Fin cfg0.N) (h : t.val = 0) : (outsAt0 m c t.val t.isLt).2 = tally (iblk m c 0 t) (E m c) := by
  rw [outsAt0_A m c t (by omega) (by omega)]
  frame_out
  exact counts_pay ((launch m c).sides t)

theorem counts_next (t : Fin cfg0.N) (h : t.val ≠ 0) : (outsAt0 m c t.val t.isLt).2
    = fun j => (outsAt0 m c (t.val - 1) (Nat.lt_of_le_of_lt (Nat.sub_le _ _) t.isLt)).2 j + tally (iblk m c 0 t) (E m c) j := by
  have ht : t.val < 13 := points ▸ t.isLt
  rw [outsAt0_B m c t (by omega) (by omega)]
  frame_out
  unfold k0_pay1
  rw [counts_pay ((launch m c).sides t), shapeCast_self]
  rfl

theorem final_rows : (dats m 0 c).arrAt 5 cfg0.N = near (X m c) (E m c) :=
  (launch m c).rows_end (congrArg (· * 208) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 12 < cfg0.N := points ▸ (by decide)
  (launch m c).counts_end (congrArg (· * 208) points) (C := fun t ht => (outsAt0 m c t ht).2) (counts_first m c) (counts_next m c) ⟨12, l⟩ points.symm
    ⟨_, _, (index_at ⟨12, l⟩).2.2.2.2, congrFun ((flushed6 m c ⟨12, l⟩).symm.trans (last_block (dats m 0 c) 6 ⟨12, l⟩ ((flush0_6 _).mpr rfl) fun t h => by
      have := (flush0_6 t).mp h
      have : t.val < 13 := points ▸ t.isLt
      dsimp only
      omega).symm)⟩

end Cert.Kernel2Ideal.Value

namespace Cert.Reference2Ideal.Value

open Cert.Reference2Ideal Cert.Reference2Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S2704x64_S64x8192_S2704x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S2704x1_S2704x64_1_0_n_n_0_1_164) (R := reducer_argmin_f32_i32) rfl dot rfl rfl rfl rfl rfl
  · exact ref_tally _ _ (R := reducer_argmin_f32_i32) rfl dot

theorem frame : Cert.quiescent_Reference2Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel2Ideal_Reference2Ideal := fun m ρ m' ρ' _ hagree =>
  ⟨fun c => near (Kernel2Ideal.Value.X m c) (Kernel2Ideal.Value.E m c), fun c => tally (Kernel2Ideal.Value.X m c) (Kernel2Ideal.Value.E m c),
    (θ_run Kernel2Ideal.defs _ _).mono (fun _ h c => ⟨(h c).1.trans (Kernel2Ideal.Value.final_rows m c), (h c).2.1.trans (Kernel2Ideal.Value.final_counts m c),
      (h c).2.2⟩) (Kernel2Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference2Ideal.Value

end
-- ==== Proof.Search3.lean ====
/-
  The search over 1600 rows, in four blocks of 400: its program bound to the lemmas on searches, and its claim.
-/
module

public import proofs.«01_k».proof.Proof.Search
public import proofs.«01_k».proof.Defs
public import proofs.«01_k».proof.Proof.Gen.Kernel3Ideal.Value
public import proofs.«01_k».proof.Proof.Gen.Reference3Ideal

@[expose] public section

set_option maxRecDepth 16384

noncomputable section

namespace Cert.Kernel3Ideal.Value

open Cert.Kernel3Ideal Cert.Kernel3Ideal.Gen Cert.Codebook Idealize.ShloMosaic Idealize.ShloMosaic.TcCoe Idealize.SL.Sem

theorem plain : Plain dot_S400x64_S64x8192_S400x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 4 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S1600x64 .f32 := m ((c.tc : Thread nD τ).loc main_arg0)
abbrev E : FVec Ideal S8192x64 .f32 := m ((c.tc : Thread nD τ).loc main_arg1)

theorem launch : Launch 1600 400 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S1600x64_S1600_d1 h_S_ bcast_S1600_S1600x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t.val t.isLt).1 = near (iblk m c 0 t) (E m c) := by
  have ht : t.val < 4 := points ▸ t.isLt
  have hp := rows_pay ((launch m c).sides t)
  rw [← (launch m c).eq_codes t] at hp ⊢
  by_cases h : t.val = 0
  · rw [outsAt0_A m c t (by omega) (by omega)]
    frame_out
    exact hp
  · rw [outsAt0_B m c t (by omega) (by omega)]
    frame_out
    exact hp

theorem counts_first (t : Fin cfg0.N) (h : t.val = 0) : (outsAt0 m c t.val t.isLt).2 = tally (iblk m c 0 t) (E m c) := by
  rw [outsAt0_A m c t (by omega) (by omega)]
  frame_out
  exact counts_pay ((launch m c).sides t)

theorem counts_next (t : Fin cfg0.N) (h : t.val ≠ 0) : (outsAt0 m c t.val t.isLt).2
    = fun j => (outsAt0 m c (t.val - 1) (Nat.lt_of_le_of_lt (Nat.sub_le _ _) t.isLt)).2 j + tally (iblk m c 0 t) (E m c) j := by
  have ht : t.val < 4 := points ▸ t.isLt
  rw [outsAt0_B m c t (by omega) (by omega)]
  frame_out
  unfold k0_pay1
  rw [counts_pay ((launch m c).sides t), shapeCast_self]
  rfl

theorem final_rows : (dats m 0 c).arrAt 5 cfg0.N = near (X m c) (E m c) :=
  (launch m c).rows_end (congrArg (· * 400) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 3 < cfg0.N := points ▸ (by decide)
  (launch m c).counts_end (congrArg (· * 400) points) (C := fun t ht => (outsAt0 m c t ht).2) (counts_first m c) (counts_next m c) ⟨3, l⟩ points.symm
    ⟨_, _, (index_at ⟨3, l⟩).2.2.2.2, congrFun ((flushed6 m c ⟨3, l⟩).symm.trans (last_block (dats m 0 c) 6 ⟨3, l⟩ ((flush0_6 _).mpr rfl) fun t h => by
      have := (flush0_6 t).mp h
      have : t.val < 4 := points ▸ t.isLt
      dsimp only
      omega).symm)⟩

end Cert.Kernel3Ideal.Value

namespace Cert.Reference3Ideal.Value

open Cert.Reference3Ideal Cert.Reference3Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S1600x64_S64x8192_S1600x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S1600x1_S1600x64_1_0_n_n_0_1_164) (R := reducer_argmin_f32_i32) rfl dot rfl rfl rfl rfl rfl
  · exact ref_tally _ _ (R := reducer_argmin_f32_i32) rfl dot

theorem frame : Cert.quiescent_Reference3Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel3Ideal_Reference3Ideal := fun m ρ m' ρ' _ hagree =>
  ⟨fun c => near (Kernel3Ideal.Value.X m c) (Kernel3Ideal.Value.E m c), fun c => tally (Kernel3Ideal.Value.X m c) (Kernel3Ideal.Value.E m c),
    (θ_run Kernel3Ideal.defs _ _).mono (fun _ h c => ⟨(h c).1.trans (Kernel3Ideal.Value.final_rows m c), (h c).2.1.trans (Kernel3Ideal.Value.final_counts m c),
      (h c).2.2⟩) (Kernel3Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference3Ideal.Value

end
-- ==== Proof.Search4.lean ====
/-
  The search over 1024 rows, in two blocks of 512: its program bound to the lemmas on searches, and its claim.
-/
module

public import proofs.«01_k».proof.Proof.Search
public import proofs.«01_k».proof.Defs
public import proofs.«01_k».proof.Proof.Gen.Kernel4Ideal.Value
public import proofs.«01_k».proof.Proof.Gen.Reference4Ideal

@[expose] public section

set_option maxRecDepth 16384

noncomputable section

namespace Cert.Kernel4Ideal.Value

open Cert.Kernel4Ideal Cert.Kernel4Ideal.Gen Cert.Codebook Idealize.ShloMosaic Idealize.ShloMosaic.TcCoe Idealize.SL.Sem

theorem plain : Plain dot_S512x64_S64x8192_S512x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 2 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S1024x64 .f32 := m ((c.tc : Thread nD τ).loc main_arg0)
abbrev E : FVec Ideal S8192x64 .f32 := m ((c.tc : Thread nD τ).loc main_arg1)

theorem launch : Launch 1024 512 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S1024x64_S1024_d1 h_S_ bcast_S1024_S1024x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t.val t.isLt).1 = near (iblk m c 0 t) (E m c) := by
  have ht : t.val < 2 := points ▸ t.isLt
  have hp := rows_pay ((launch m c).sides t)
  rw [← (launch m c).eq_codes t] at hp ⊢
  by_cases h : t.val = 0
  · rw [outsAt0_A m c t (by omega) (by omega)]
    frame_out
    exact hp
  · rw [outsAt0_B m c t (by omega) (by omega)]
    frame_out
    exact hp

theorem counts_first (t : Fin cfg0.N) (h : t.val = 0) : (outsAt0 m c t.val t.isLt).2 = tally (iblk m c 0 t) (E m c) := by
  rw [outsAt0_A m c t (by omega) (by omega)]
  frame_out
  exact counts_pay ((launch m c).sides t)

theorem counts_next (t : Fin cfg0.N) (h : t.val ≠ 0) : (outsAt0 m c t.val t.isLt).2
    = fun j => (outsAt0 m c (t.val - 1) (Nat.lt_of_le_of_lt (Nat.sub_le _ _) t.isLt)).2 j + tally (iblk m c 0 t) (E m c) j := by
  have ht : t.val < 2 := points ▸ t.isLt
  rw [outsAt0_B m c t (by omega) (by omega)]
  frame_out
  unfold k0_pay1
  rw [counts_pay ((launch m c).sides t), shapeCast_self]
  rfl

theorem final_rows : (dats m 0 c).arrAt 5 cfg0.N = near (X m c) (E m c) :=
  (launch m c).rows_end (congrArg (· * 512) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 1 < cfg0.N := points ▸ (by decide)
  (launch m c).counts_end (congrArg (· * 512) points) (C := fun t ht => (outsAt0 m c t ht).2) (counts_first m c) (counts_next m c) ⟨1, l⟩ points.symm
    ⟨_, _, (index_at ⟨1, l⟩).2.2.2.2, congrFun ((flushed6 m c ⟨1, l⟩).symm.trans (last_block (dats m 0 c) 6 ⟨1, l⟩ ((flush0_6 _).mpr rfl) fun t h => by
      have := (flush0_6 t).mp h
      have : t.val < 2 := points ▸ t.isLt
      dsimp only
      omega).symm)⟩

end Cert.Kernel4Ideal.Value

namespace Cert.Reference4Ideal.Value

open Cert.Reference4Ideal Cert.Reference4Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S1024x64_S64x8192_S1024x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S1024x1_S1024x64_1_0_n_n_0_1_164) (R := reducer_argmin_f32_i32) rfl dot rfl rfl rfl rfl rfl
  · exact ref_tally _ _ (R := reducer_argmin_f32_i32) rfl dot

theorem frame : Cert.quiescent_Reference4Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel4Ideal_Reference4Ideal := fun m ρ m' ρ' _ hagree =>
  ⟨fun c => near (Kernel4Ideal.Value.X m c) (Kernel4Ideal.Value.E m c), fun c => tally (Kernel4Ideal.Value.X m c) (Kernel4Ideal.Value.E m c),
    (θ_run Kernel4Ideal.defs _ _).mono (fun _ h c => ⟨(h c).1.trans (Kernel4Ideal.Value.final_rows m c), (h c).2.1.trans (Kernel4Ideal.Value.final_counts m c),
      (h c).2.2⟩) (Kernel4Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference4Ideal.Value

end
-- ==== Proof.Search5.lean ====
/-
  The search over 576 rows, in two blocks of 288: its program bound to the lemmas on searches, and its claim.
-/
module

public import proofs.«01_k».proof.Proof.Search
public import proofs.«01_k».proof.Defs
public import proofs.«01_k».proof.Proof.Gen.Kernel5Ideal.Value
public import proofs.«01_k».proof.Proof.Gen.Reference5Ideal

@[expose] public section

set_option maxRecDepth 16384

noncomputable section

namespace Cert.Kernel5Ideal.Value

open Cert.Kernel5Ideal Cert.Kernel5Ideal.Gen Cert.Codebook Idealize.ShloMosaic Idealize.ShloMosaic.TcCoe Idealize.SL.Sem

theorem plain : Plain dot_S288x64_S64x8192_S288x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 2 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S576x64 .f32 := m ((c.tc : Thread nD τ).loc main_arg0)
abbrev E : FVec Ideal S8192x64 .f32 := m ((c.tc : Thread nD τ).loc main_arg1)

theorem launch : Launch 576 288 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S576x64_S576_d1 h_S_ bcast_S576_S576x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t.val t.isLt).1 = near (iblk m c 0 t) (E m c) := by
  have ht : t.val < 2 := points ▸ t.isLt
  have hp := rows_pay ((launch m c).sides t)
  rw [← (launch m c).eq_codes t] at hp ⊢
  by_cases h : t.val = 0
  · rw [outsAt0_A m c t (by omega) (by omega)]
    frame_out
    exact hp
  · rw [outsAt0_B m c t (by omega) (by omega)]
    frame_out
    exact hp

theorem counts_first (t : Fin cfg0.N) (h : t.val = 0) : (outsAt0 m c t.val t.isLt).2 = tally (iblk m c 0 t) (E m c) := by
  rw [outsAt0_A m c t (by omega) (by omega)]
  frame_out
  exact counts_pay ((launch m c).sides t)

theorem counts_next (t : Fin cfg0.N) (h : t.val ≠ 0) : (outsAt0 m c t.val t.isLt).2
    = fun j => (outsAt0 m c (t.val - 1) (Nat.lt_of_le_of_lt (Nat.sub_le _ _) t.isLt)).2 j + tally (iblk m c 0 t) (E m c) j := by
  have ht : t.val < 2 := points ▸ t.isLt
  rw [outsAt0_B m c t (by omega) (by omega)]
  frame_out
  unfold k0_pay1
  rw [counts_pay ((launch m c).sides t), shapeCast_self]
  rfl

theorem final_rows : (dats m 0 c).arrAt 5 cfg0.N = near (X m c) (E m c) :=
  (launch m c).rows_end (congrArg (· * 288) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 1 < cfg0.N := points ▸ (by decide)
  (launch m c).counts_end (congrArg (· * 288) points) (C := fun t ht => (outsAt0 m c t ht).2) (counts_first m c) (counts_next m c) ⟨1, l⟩ points.symm
    ⟨_, _, (index_at ⟨1, l⟩).2.2.2.2, congrFun ((flushed6 m c ⟨1, l⟩).symm.trans (last_block (dats m 0 c) 6 ⟨1, l⟩ ((flush0_6 _).mpr rfl) fun t h => by
      have := (flush0_6 t).mp h
      have : t.val < 2 := points ▸ t.isLt
      dsimp only
      omega).symm)⟩

end Cert.Kernel5Ideal.Value

namespace Cert.Reference5Ideal.Value

open Cert.Reference5Ideal Cert.Reference5Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S576x64_S64x8192_S576x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S576x1_S576x64_1_0_n_n_0_1_164) (R := reducer_argmin_f32_i32) rfl dot rfl rfl rfl rfl rfl
  · exact ref_tally _ _ (R := reducer_argmin_f32_i32) rfl dot

theorem frame : Cert.quiescent_Reference5Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel5Ideal_Reference5Ideal := fun m ρ m' ρ' _ hagree =>
  ⟨fun c => near (Kernel5Ideal.Value.X m c) (Kernel5Ideal.Value.E m c), fun c => tally (Kernel5Ideal.Value.X m c) (Kernel5Ideal.Value.E m c),
    (θ_run Kernel5Ideal.defs _ _).mono (fun _ h c => ⟨(h c).1.trans (Kernel5Ideal.Value.final_rows m c), (h c).2.1.trans (Kernel5Ideal.Value.final_counts m c),
      (h c).2.2⟩) (Kernel5Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference5Ideal.Value

end
-- ==== Proof.Search6.lean ====
/-
  The search over 400 rows, in one block: its program bound to the lemmas on searches, and its claim.
-/
module

public import proofs.«01_k».proof.Proof.Search
public import proofs.«01_k».proof.Defs
public import proofs.«01_k».proof.Proof.Gen.Kernel6Ideal.Value
public import proofs.«01_k».proof.Proof.Gen.Reference6Ideal

@[expose] public section

set_option maxRecDepth 16384

noncomputable section

namespace Cert.Kernel6Ideal.Value

open Cert.Kernel6Ideal Cert.Kernel6Ideal.Gen Cert.Codebook Idealize.ShloMosaic Idealize.ShloMosaic.TcCoe Idealize.SL.Sem

theorem plain : Plain dot_S400x64_S64x8192_S400x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 1 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S400x64 .f32 := m ((c.tc : Thread nD τ).loc main_arg0)
abbrev E : FVec Ideal S8192x64 .f32 := m ((c.tc : Thread nD τ).loc main_arg1)

theorem launch : Launch 400 400 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S400x64_S400_d1 h_S_ bcast_S400_S400x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t).1 = near (iblk m c 0 t) (E m c) := by
  have hp := rows_pay ((launch m c).sides t)
  rw [← (launch m c).eq_codes t] at hp ⊢
  unfold outsAt0
  frame_out
  exact hp

theorem counts_at (t : Fin cfg0.N) : (outsAt0 m c t).2 = tally (iblk m c 0 t) (E m c) := by
  unfold outsAt0
  frame_out
  exact counts_pay ((launch m c).sides t)

theorem final_rows : (dats m 0 c).arrAt 5 cfg0.N = near (X m c) (E m c) :=
  (launch m c).rows_end (congrArg (· * 400) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 0 < cfg0.N := points ▸ (by decide)
  (launch m c).counts_end (congrArg (· * 400) points) (C := fun t ht => (outsAt0 m c ⟨t, ht⟩).2) (fun t _ => counts_at m c t)
    (fun t h => absurd (Nat.lt_one_iff.mp (points ▸ t.isLt)) h) ⟨0, l⟩ points.symm
    ⟨_, _, (index_at ⟨0, l⟩).2.2.2.2, congrFun ((flushed6 m c ⟨0, l⟩).symm.trans (blocks6 m c ⟨0, l⟩ (flush0_6 _)).symm)⟩

end Cert.Kernel6Ideal.Value

namespace Cert.Reference6Ideal.Value

open Cert.Reference6Ideal Cert.Reference6Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S400x64_S64x8192_S400x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S400x1_S400x64_1_0_n_n_0_1_164) (R := reducer_argmin_f32_i32) rfl dot rfl rfl rfl rfl rfl
  · exact ref_tally _ _ (R := reducer_argmin_f32_i32) rfl dot

theorem frame : Cert.quiescent_Reference6Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel6Ideal_Reference6Ideal := fun m ρ m' ρ' _ hagree =>
  ⟨fun c => near (Kernel6Ideal.Value.X m c) (Kernel6Ideal.Value.E m c), fun c => tally (Kernel6Ideal.Value.X m c) (Kernel6Ideal.Value.E m c),
    (θ_run Kernel6Ideal.defs _ _).mono (fun _ h c => ⟨(h c).1.trans (Kernel6Ideal.Value.final_rows m c), (h c).2.1.trans (Kernel6Ideal.Value.final_counts m c),
      (h c).2.2⟩) (Kernel6Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference6Ideal.Value

end
-- ==== Proof.Search7.lean ====
/-
  The search over 256 rows, in one block: its program bound to the lemmas on searches, and its claim.
-/
module

public import proofs.«01_k».proof.Proof.Search
public import proofs.«01_k».proof.Defs
public import proofs.«01_k».proof.Proof.Gen.Kernel7Ideal.Value
public import proofs.«01_k».proof.Proof.Gen.Reference7Ideal

@[expose] public section

set_option maxRecDepth 16384

noncomputable section

namespace Cert.Kernel7Ideal.Value

open Cert.Kernel7Ideal Cert.Kernel7Ideal.Gen Cert.Codebook Idealize.ShloMosaic Idealize.ShloMosaic.TcCoe Idealize.SL.Sem

theorem plain : Plain dot_S256x64_S64x8192_S256x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 1 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S256x64 .f32 := m ((c.tc : Thread nD τ).loc main_arg0)
abbrev E : FVec Ideal S8192x64 .f32 := m ((c.tc : Thread nD τ).loc main_arg1)

theorem launch : Launch 256 256 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S256x64_S256_d1 h_S_ bcast_S256_S256x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t).1 = near (iblk m c 0 t) (E m c) := by
  have hp := rows_pay ((launch m c).sides t)
  rw [← (launch m c).eq_codes t] at hp ⊢
  unfold outsAt0
  frame_out
  exact hp

theorem counts_at (t : Fin cfg0.N) : (outsAt0 m c t).2 = tally (iblk m c 0 t) (E m c) := by
  unfold outsAt0
  frame_out
  exact counts_pay ((launch m c).sides t)

theorem final_rows : (dats m 0 c).arrAt 5 cfg0.N = near (X m c) (E m c) :=
  (launch m c).rows_end (congrArg (· * 256) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 0 < cfg0.N := points ▸ (by decide)
  (launch m c).counts_end (congrArg (· * 256) points) (C := fun t ht => (outsAt0 m c ⟨t, ht⟩).2) (fun t _ => counts_at m c t)
    (fun t h => absurd (Nat.lt_one_iff.mp (points ▸ t.isLt)) h) ⟨0, l⟩ points.symm
    ⟨_, _, (index_at ⟨0, l⟩).2.2.2.2, congrFun ((flushed6 m c ⟨0, l⟩).symm.trans (blocks6 m c ⟨0, l⟩ (flush0_6 _)).symm)⟩

end Cert.Kernel7Ideal.Value

namespace Cert.Reference7Ideal.Value

open Cert.Reference7Ideal Cert.Reference7Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S256x64_S64x8192_S256x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S256x1_S256x64_1_0_n_n_0_1_164) (R := reducer_argmin_f32_i32) rfl dot rfl rfl rfl rfl rfl
  · exact ref_tally _ _ (R := reducer_argmin_f32_i32) rfl dot

theorem frame : Cert.quiescent_Reference7Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel7Ideal_Reference7Ideal := fun m ρ m' ρ' _ hagree =>
  ⟨fun c => near (Kernel7Ideal.Value.X m c) (Kernel7Ideal.Value.E m c), fun c => tally (Kernel7Ideal.Value.X m c) (Kernel7Ideal.Value.E m c),
    (θ_run Kernel7Ideal.defs _ _).mono (fun _ h c => ⟨(h c).1.trans (Kernel7Ideal.Value.final_rows m c), (h c).2.1.trans (Kernel7Ideal.Value.final_counts m c),
      (h c).2.2⟩) (Kernel7Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference7Ideal.Value

end
-- ==== Proof.Search8.lean ====
/-
  The search over 144 rows, in one block: its program bound to the lemmas on searches, and its claim.
-/
module

public import proofs.«01_k».proof.Proof.Search
public import proofs.«01_k».proof.Defs
public import proofs.«01_k».proof.Proof.Gen.Kernel8Ideal.Value
public import proofs.«01_k».proof.Proof.Gen.Reference8Ideal

@[expose] public section

set_option maxRecDepth 16384

noncomputable section

namespace Cert.Kernel8Ideal.Value

open Cert.Kernel8Ideal Cert.Kernel8Ideal.Gen Cert.Codebook Idealize.ShloMosaic Idealize.ShloMosaic.TcCoe Idealize.SL.Sem

theorem plain : Plain dot_S144x64_S64x8192_S144x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 1 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S144x64 .f32 := m ((c.tc : Thread nD τ).loc main_arg0)
abbrev E : FVec Ideal S8192x64 .f32 := m ((c.tc : Thread nD τ).loc main_arg1)

theorem launch : Launch 144 144 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S144x64_S144_d1 h_S_ bcast_S144_S144x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t).1 = near (iblk m c 0 t) (E m c) := by
  have hp := rows_pay ((launch m c).sides t)
  rw [← (launch m c).eq_codes t] at hp ⊢
  unfold outsAt0
  frame_out
  exact hp

theorem counts_at (t : Fin cfg0.N) : (outsAt0 m c t).2 = tally (iblk m c 0 t) (E m c) := by
  unfold outsAt0
  frame_out
  exact counts_pay ((launch m c).sides t)

theorem final_rows : (dats m 0 c).arrAt 5 cfg0.N = near (X m c) (E m c) :=
  (launch m c).rows_end (congrArg (· * 144) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 0 < cfg0.N := points ▸ (by decide)
  (launch m c).counts_end (congrArg (· * 144) points) (C := fun t ht => (outsAt0 m c ⟨t, ht⟩).2) (fun t _ => counts_at m c t)
    (fun t h => absurd (Nat.lt_one_iff.mp (points ▸ t.isLt)) h) ⟨0, l⟩ points.symm
    ⟨_, _, (index_at ⟨0, l⟩).2.2.2.2, congrFun ((flushed6 m c ⟨0, l⟩).symm.trans (blocks6 m c ⟨0, l⟩ (flush0_6 _)).symm)⟩

end Cert.Kernel8Ideal.Value

namespace Cert.Reference8Ideal.Value

open Cert.Reference8Ideal Cert.Reference8Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S144x64_S64x8192_S144x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S144x1_S144x64_1_0_n_n_0_1_164) (R := reducer_argmin_f32_i32) rfl dot rfl rfl rfl rfl rfl
  · exact ref_tally _ _ (R := reducer_argmin_f32_i32) rfl dot

theorem frame : Cert.quiescent_Reference8Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel8Ideal_Reference8Ideal := fun m ρ m' ρ' _ hagree =>
  ⟨fun c => near (Kernel8Ideal.Value.X m c) (Kernel8Ideal.Value.E m c), fun c => tally (Kernel8Ideal.Value.X m c) (Kernel8Ideal.Value.E m c),
    (θ_run Kernel8Ideal.defs _ _).mono (fun _ h c => ⟨(h c).1.trans (Kernel8Ideal.Value.final_rows m c), (h c).2.1.trans (Kernel8Ideal.Value.final_counts m c),
      (h c).2.2⟩) (Kernel8Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference8Ideal.Value

end
-- ==== Proof.Search9.lean ====
/-
  The search over 64 rows, in one block: its program bound to the lemmas on searches, and its claim.
-/
module

public import proofs.«01_k».proof.Proof.Search
public import proofs.«01_k».proof.Defs
public import proofs.«01_k».proof.Proof.Gen.Kernel9Ideal.Value
public import proofs.«01_k».proof.Proof.Gen.Reference9Ideal

@[expose] public section

set_option maxRecDepth 16384

noncomputable section

namespace Cert.Kernel9Ideal.Value

open Cert.Kernel9Ideal Cert.Kernel9Ideal.Gen Cert.Codebook Idealize.ShloMosaic Idealize.ShloMosaic.TcCoe Idealize.SL.Sem

theorem plain : Plain dot_S64x64_S64x8192_S64x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 1 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S64x64 .f32 := m ((c.tc : Thread nD τ).loc main_arg0)
abbrev E : FVec Ideal S8192x64 .f32 := m ((c.tc : Thread nD τ).loc main_arg1)

theorem launch : Launch 64 64 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S64x64_S64_d1 h_S_ bcast_S64_S64x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t).1 = near (iblk m c 0 t) (E m c) := by
  have hp := rows_pay ((launch m c).sides t)
  rw [← (launch m c).eq_codes t] at hp ⊢
  unfold outsAt0
  frame_out
  exact hp

theorem counts_at (t : Fin cfg0.N) : (outsAt0 m c t).2 = tally (iblk m c 0 t) (E m c) := by
  unfold outsAt0
  frame_out
  exact counts_pay ((launch m c).sides t)

theorem final_rows : (dats m 0 c).arrAt 5 cfg0.N = near (X m c) (E m c) :=
  (launch m c).rows_end (congrArg (· * 64) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 0 < cfg0.N := points ▸ (by decide)
  (launch m c).counts_end (congrArg (· * 64) points) (C := fun t ht => (outsAt0 m c ⟨t, ht⟩).2) (fun t _ => counts_at m c t)
    (fun t h => absurd (Nat.lt_one_iff.mp (points ▸ t.isLt)) h) ⟨0, l⟩ points.symm
    ⟨_, _, (index_at ⟨0, l⟩).2.2.2.2, congrFun ((flushed6 m c ⟨0, l⟩).symm.trans (blocks6 m c ⟨0, l⟩ (flush0_6 _)).symm)⟩

end Cert.Kernel9Ideal.Value

namespace Cert.Reference9Ideal.Value

open Cert.Reference9Ideal Cert.Reference9Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S64x64_S64x8192_S64x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S64x1_S64x64_1_0_n_n_0_1_164) (R := reducer_argmin_f32_i32) rfl dot rfl rfl rfl rfl rfl
  · exact ref_tally _ _ (R := reducer_argmin_f32_i32) rfl dot

theorem frame : Cert.quiescent_Reference9Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel9Ideal_Reference9Ideal := fun m ρ m' ρ' _ hagree =>
  ⟨fun c => near (Kernel9Ideal.Value.X m c) (Kernel9Ideal.Value.E m c), fun c => tally (Kernel9Ideal.Value.X m c) (Kernel9Ideal.Value.E m c),
    (θ_run Kernel9Ideal.defs _ _).mono (fun _ h c => ⟨(h c).1.trans (Kernel9Ideal.Value.final_rows m c), (h c).2.1.trans (Kernel9Ideal.Value.final_counts m c),
      (h c).2.2⟩) (Kernel9Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference9Ideal.Value

end
-- ==== Proof.Search10.lean ====
/-
  The search over 16 rows, in one block: its program bound to the lemmas on searches, and its claim.
-/
module

public import proofs.«01_k».proof.Proof.Search
public import proofs.«01_k».proof.Defs
public import proofs.«01_k».proof.Proof.Gen.Kernel10Ideal.Value
public import proofs.«01_k».proof.Proof.Gen.Reference10Ideal

@[expose] public section

set_option maxRecDepth 16384

noncomputable section

namespace Cert.Kernel10Ideal.Value

open Cert.Kernel10Ideal Cert.Kernel10Ideal.Gen Cert.Codebook Idealize.ShloMosaic Idealize.ShloMosaic.TcCoe Idealize.SL.Sem

theorem plain : Plain dot_S16x64_S64x8192_S16x8192_1_0_0_1_n_n none := fun x y r c => by pointwise

theorem rows_pay {x e et xx ee} (h : Sides x e et xx ee) : k0_pay3 (F := Ideal) x et xx ee e = near x e := by
  unfold k0_pay3 k0_pay2
  simp only [shapeCast_self]
  exact block_rows plain (fun x y r c => by pointwise) h

theorem counts_pay {x e et xx ee} (h : Sides x e et xx ee) : k0_pay4 (F := Ideal) x et xx ee = tally x e := by
  unfold k0_pay4 k0_pay2
  simp only [shapeCast_self]
  exact block_counts plain h _ _

theorem points : cfg0.N = 1 := N_0

/-- The block of each window at each point. -/
theorem index_at : ∀ t : Fin cfg0.N, (win0_0.index t = ![t.val, 0] ∧ win0_1.index t = ![t.val, 0] ∧ win0_5.index t = ![t.val, 0])
    ∧ win0_2.index t = ![0, 0] ∧ win0_3.index t = ![0, 0] ∧ win0_4.index t = ![0, 0] ∧ win0_6.index t = ![0, 0] := by decide +kernel

variable (m : (ℓ : Loc nD τ sig) → Buf (Elt Ideal) ℓ) (c : Dev nD)

/-- The rows and the codebook. -/
abbrev X : FVec Ideal S16x64 .f32 := m ((c.tc : Thread nD τ).loc main_arg0)
abbrev E : FVec Ideal S8192x64 .f32 := m ((c.tc : Thread nD τ).loc main_arg1)

theorem launch : Launch 16 16 cfg0.N (X m c) (E m c) (iblk m c 0) (iblk m c 1) (iblk m c 2) (iblk m c 3) (iblk m c 4)
    (V m c main_v6) (V m c main_v0) (V m c main_v3) where
  rows t := ⟨_, _, (index_at t).1.1, fun _ => congrFun (V_main_arg0 m c) _⟩
  squares t := ⟨_, _, (index_at t).1.2.1, fun _ => rfl⟩
  turned t := ⟨_, _, (index_at t).2.1, fun _ => rfl⟩
  lengths t := ⟨_, _, (index_at t).2.2.1, fun _ => rfl⟩
  codes t := ⟨_, _, (index_at t).2.2.2.1, fun _ => congrFun (V_main_arg1 m c) _⟩
  squares_eq r := (congrFun (by unfold V; after_results) _).trans (squares_column (X m c) reducesTo_S16x64_S16_d1 h_S_ bcast_S16_S16x1_0 r)
  turned_eq d k := (congrFun (by unfold V; after_results) _).trans (turned_apply (E m c) transposes_S8192x64_S64x8192_1_0 d k)
  lengths_eq k := (congrFun (by unfold V; after_results) _).trans (lengths_apply (E m c) reducesTo_S8192x64_S8192_d1 h_S_ bcast_S8192_S1x8192_1 k)

theorem rows_at (t : Fin cfg0.N) : (outsAt0 m c t).1 = near (iblk m c 0 t) (E m c) := by
  have hp := rows_pay ((launch m c).sides t)
  rw [← (launch m c).eq_codes t] at hp ⊢
  unfold outsAt0
  frame_out
  exact hp

theorem counts_at (t : Fin cfg0.N) : (outsAt0 m c t).2 = tally (iblk m c 0 t) (E m c) := by
  unfold outsAt0
  frame_out
  exact counts_pay ((launch m c).sides t)

theorem final_rows : (dats m 0 c).arrAt 5 cfg0.N = near (X m c) (E m c) :=
  (launch m c).rows_end (congrArg (· * 16) points) (rows_at m c)
    fun t => ⟨_, _, (index_at t).1.2.2, congrFun ((flushed5 m c t).symm.trans (blocks5 m c t (flush0_5 t)).symm)⟩

theorem final_counts : (dats m 0 c).arrAt 6 cfg0.N = tally (X m c) (E m c) :=
  have l : 0 < cfg0.N := points ▸ (by decide)
  (launch m c).counts_end (congrArg (· * 16) points) (C := fun t ht => (outsAt0 m c ⟨t, ht⟩).2) (fun t _ => counts_at m c t)
    (fun t h => absurd (Nat.lt_one_iff.mp (points ▸ t.isLt)) h) ⟨0, l⟩ points.symm
    ⟨_, _, (index_at ⟨0, l⟩).2.2.2.2, congrFun ((flushed6 m c ⟨0, l⟩).symm.trans (blocks6 m c ⟨0, l⟩ (flush0_6 _)).symm)⟩

end Cert.Kernel10Ideal.Value

namespace Cert.Reference10Ideal.Value

open Cert.Reference10Ideal Cert.Reference10Ideal.Gen Cert.Codebook Idealize.ShloMosaic Idealize.ShloMosaic.StableHlo Idealize.SL.Sem

/-- The reference leaves the nearest rows, the tally, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v16) = near (m ((c.tc : Thread nD τ).loc main_arg0)) (m ((c.tc : Thread nD τ).loc main_arg1))
      ∧ r.2.mem ((c.tc : Thread nD τ).loc main_v25) = tally (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) := by
  have dot : HostPlain dot_S16x64_S64x8192_S16x8192_1_0_0_1_n_n := fun x y r k => by pointwise
  refine (θ_run defs _ _).mono (fun r h c => ⟨(h c main_v16).trans ?_, (h c main_v25).trans ?_, (h c main_arg0).trans ?_, (h c main_arg1).trans ?_⟩)
    (Line.run (by decide) (by decide) defs main (fun _ => by delta main fn_argmin.body; infer_instance) m ρ) <;>
    simp only [List.cons_append, List.nil_append] <;> after_results_simp
  · exact ref_near _ _ (gd := gather_S8192x64_S16x1_S16x64_1_0_n_n_0_1_164) (R := reducer_argmin_f32_i32) rfl dot rfl rfl rfl rfl rfl
  · exact ref_tally _ _ (R := reducer_argmin_f32_i32) rfl dot

theorem frame : Cert.quiescent_Reference10Ideal := fun m ρ _ =>
  (θ_run defs _ _).mono (fun r h => ⟨fun c => (h c).2.2, sem_eq_zero_of_no_sems (by decide) r.2⟩) (run m ρ)

/-- The kernel and the reference leave the same rows and the same counts. -/
theorem algebraic : Cert.algebraic_Kernel10Ideal_Reference10Ideal := fun m ρ m' ρ' _ hagree =>
  ⟨fun c => near (Kernel10Ideal.Value.X m c) (Kernel10Ideal.Value.E m c), fun c => tally (Kernel10Ideal.Value.X m c) (Kernel10Ideal.Value.E m c),
    (θ_run Kernel10Ideal.defs _ _).mono (fun _ h c => ⟨(h c).1.trans (Kernel10Ideal.Value.final_rows m c), (h c).2.1.trans (Kernel10Ideal.Value.final_counts m c),
      (h c).2.2⟩) (Kernel10Ideal.Value.run_blocks (F := Ideal) m ρ),
    (θ_run defs _ _).mono (fun _ h c => ⟨(h c).1.trans (congrArg₂ near (hagree c).1 (hagree c).2), (h c).2.1.trans (congrArg₂ tally (hagree c).1 (hagree c).2),
      (h c).2.2⟩) (run m' ρ')⟩

end Cert.Reference10Ideal.Value

end
-- ==== Proof.Update.lean ====
/-
  The last update, which convolves the rows of the last scale, mixes them with their convolution and leaves the residual, the
  image and the partial loss: the padding, the nine taps, the bias and the mean, and the claim of the program.
-/
module

public import proofs.«01_k».proof.Proof.Codebook
public import proofs.«01_k».proof.Proof.Line
public import proofs.«01_k».proof.Defs
public import proofs.«01_k».proof.Proof.Gen.Kernel11Ideal.Value
public import proofs.«01_k».proof.Proof.Gen.Reference11Ideal

@[expose] public section

set_option maxRecDepth 16384

noncomputable section

namespace Cert.Update

open Cert.Kernel11Ideal Cert.Kernel11Ideal.Gen Idealize.ShloMosaic

/-- A block of the array's own size at index zero is the array. -/
theorem place_whole {s : Shape} {w : Fin s.rank → Nat} (hw : ∀ a, w a = 0) (inb : ∀ a, w a * s.size a + s.size a ≤ s.size a) (j : s.Idx) :
    (Rect.unit (s := s) (fun a => w a * s.size a) s.size inb).idx j = j := by
  funext a
  apply Fin.ext
  show w a * s.size a + 1 * (j a).val = (j a).val
  rw [hw a, Nat.zero_mul, Nat.zero_add, Nat.one_mul]

/-- The kernel's padded rows are the host's: zeros around each of the sixteen planes. -/
theorem padded (x : FVec Ideal S4096x64 .f32) : k0_pay6 (F := Ideal) x
    = pad S16x18x18x64 ![0, 1, 1, 0] ![0, 1, 1, 0] ![0, 0, 0, 0] (shapeCast S16x16x16x64 x shapeCasts_S4096x64_S16x16x16x64)
      (sitofp (F := Ideal) .f32 (constantI ⟨0, ![]⟩ 32 0#32)) Reference11Ideal.Gen.pads_S16x16x16x64_S16x18x18x64_000_110_110_000 Reference11Ideal.Gen.h_S_ := by
  unfold k0_pay6
  funext j
  obtain ⟨b, p, q, c, rfl⟩ : ∃ (b : Fin 16) (p q : Fin 18) (c : Fin 64), j = ix4 b p q c := ⟨j 0, j 1, j 2, j 3, eq_ix4 j⟩
  have z : FloatOps.sitofp (F := Ideal) .f32 0#32 = (0 : EReal) := by simp [FloatOps.sitofp]
  pointwise
  rw [z]
  split_ifs <;> first | rfl | omega | rw [dif_pos (show (1 ≤ p.val ∧ p.val - 1 < 16) ∧ 1 ≤ q.val ∧ q.val - 1 < 16 by omega)]

/-- The weights of one of the nine shifts, as the kernel loads them and as the host cuts them, the latter with the outputs first. -/
theorem weight_kernel (w : Vec Ideal S3x3x64x64 .f32) (i j : Fin 3) (inb : ∀ a, (![i.val, j.val, 0, 0] : Fin 4 → Nat) a + S1x1x64x64.size a ≤ S3x3x64x64.size a) (c o : Fin 64) :
    shapeCast S64x64 (View.ld (Val := Elt Ideal) w (Rect.unit (s := S3x3x64x64) ![i.val, j.val, 0, 0] S1x1x64x64.size inb)) shapeCasts_S1x1x64x64_S64x64 (ix2 c o) = w (ix4 i j c o) := by
  have e : ∀ X : FVec Ideal S1x1x64x64 .f32, shapeCast S64x64 X shapeCasts_S1x1x64x64_S64x64 (ix2 c o) = X (ix4 0 0 c o) := fun X => by pointwise
  refine (e _).trans (congrArg w (funext fun a => Fin.ext ?_))
  match a with
  | ⟨0, _⟩ => show i.val + 1 * 0 = i.val; omega
  | ⟨1, _⟩ => show j.val + 1 * 0 = j.val; omega
  | ⟨2, _⟩ => show 0 + 1 * c.val = c.val; omega
  | ⟨3, _⟩ => show 0 + 1 * o.val = o.val; omega

theorem weight_host (w : FVec Ideal ⟨4, ![64, 64, 3, 3]⟩ .f32) (i j : Fin 3) (hs : (⟨4, ![64, 64, 3, 3]⟩ : Shape).Slices ![0, 0, i.val, j.val] ⟨4, ![64, 64, 1, 1]⟩) (hc : (⟨4, ![64, 64, 1, 1]⟩ : Shape).ShapeCasts S64x64) (c o : Fin 64) :
    shapeCast S64x64 (extractStridedSlice ⟨4, ![64, 64, 1, 1]⟩ ![0, 0, i.val, j.val] w hs) hc (ix2 o c) = w (ix4 o c i j) := by
  pointwise

/-- A product of shifted rows with the weights of their shift, as the kernel takes it and as the host takes it. -/
theorem tap (Q : FVec Ideal S16x16x16x64 .f32) (u v : FVec Ideal S64x64 .f32) (h : ∀ c o, u (ix2 c o) = v (ix2 o c)) :
    matmul dot_S4096x64_S64x64_S4096x64_1_0_0_1_n_n none (shapeCast S4096x64 Q shapeCasts_S16x16x16x64_S4096x64) u (constant S4096x64 .f32 0x00000000#32)
     = shapeCast S4096x64 (Host.dotGeneral Reference11Ideal.dot_S16x16x16x64_S64x64_S16x16x16x64_3_1_012_0_n_n none Q v) shapeCasts_S16x16x16x64_S4096x64 := by
  funext j
  obtain ⟨r, o, rfl⟩ : ∃ (r : Fin 4096) (o : Fin 64), j = ix2 r o := ⟨j 0, j 1, eq_ix2 j⟩
  pointwise
  exact Finset.sum_congr rfl fun c _ => by rw [h]

/-- One of the nine taps as the kernel takes it, over padded rows and weights laid out for it. -/
def kernelTap (P : FVec Ideal S16x18x18x64 .f32) (w : Vec Ideal S3x3x64x64 .f32) (i j : Fin 3) : FVec Ideal S4096x64 .f32 :=
  matmul (φ₁ := .f32) (φ₂ := .f32) dot_S4096x64_S64x64_S4096x64_1_0_0_1_n_n none
    (shapeCast S4096x64 (extractStridedSlice S16x16x16x64 ![0, i.val, j.val, 0] P ((by decide : ∀ i j : Fin 3, S16x18x18x64.Slices ![0, i.val, j.val, 0] S16x16x16x64) i j)) shapeCasts_S16x16x16x64_S4096x64)
    (shapeCast S64x64 (View.ld (Val := Elt Ideal) w (Rect.unit (s := S3x3x64x64) ![i.val, j.val, 0, 0] S1x1x64x64.size
      ((by decide : ∀ i j : Fin 3, ∀ a, (![i.val, j.val, 0, 0] : Fin 4 → Nat) a + S1x1x64x64.size a ≤ S3x3x64x64.size a) i j))) shapeCasts_S1x1x64x64_S64x64)
    (constant S4096x64 .f32 0x00000000#32)

/-- The same tap as the host takes it, over weights laid out as the arguments have them. -/
def hostTap (P : FVec Ideal S16x18x18x64 .f32) (w : FVec Ideal Reference11Ideal.S64x64x3x3 .f32) (i j : Fin 3) : FVec Ideal S16x16x16x64 .f32 :=
  Host.dotGeneral Reference11Ideal.dot_S16x16x16x64_S64x64_S16x16x16x64_3_1_012_0_n_n none
    (extractStridedSlice S16x16x16x64 ![0, i.val, j.val, 0] P ((by decide : ∀ i j : Fin 3, S16x18x18x64.Slices ![0, i.val, j.val, 0] S16x16x16x64) i j))
    (shapeCast S64x64 (extractStridedSlice Reference11Ideal.S64x64x1x1 ![0, 0, i.val, j.val] w
      ((by decide : ∀ i j : Fin 3, Reference11Ideal.S64x64x3x3.Slices ![0, 0, i.val, j.val] Reference11Ideal.S64x64x1x1) i j)) Reference11Ideal.Gen.shapeCasts_S64x64x1x1_S64x64)

theorem kernelTap_eq (P : FVec Ideal S16x18x18x64 .f32) {w : Vec Ideal S3x3x64x64 .f32} {w' : FVec Ideal Reference11Ideal.S64x64x3x3 .f32}
    (h : ∀ i j c o, w (ix4 i j c o) = w' (ix4 o c i j)) (i j : Fin 3) :
    kernelTap P w i j = shapeCast S4096x64 (hostTap P w' i j) shapeCasts_S16x16x16x64_S4096x64 :=
  tap _ _ _ fun c o => (weight_kernel w i j _ c o).trans ((h i j c o).trans (weight_host w' i j _ _ c o).symm)

/-- The host's convolution of padded rows: the bias and the nine taps. -/
def hostConv (P : FVec Ideal S16x18x18x64 .f32) (w : FVec Ideal Reference11Ideal.S64x64x3x3 .f32) (b : FVec Ideal S64 .f32) : FVec Ideal S16x16x16x64 .f32 :=
  addf (addf (addf (addf (addf (addf (addf (addf (addf
    (broadcastInDim S16x16x16x64 ![0, 1, 2, 3] Reference11Ideal.Gen.bcast_S1x1x1x64_S16x16x16x64_0_1_2_3 (broadcastInDim Reference11Ideal.S1x1x1x64 ![3] Reference11Ideal.Gen.bcast_S64_S1x1x1x64_3 b))
    (hostTap P w 0 0)) (hostTap P w 0 1)) (hostTap P w 0 2)) (hostTap P w 1 0)) (hostTap P w 1 1)) (hostTap P w 1 2)) (hostTap P w 2 0)) (hostTap P w 2 1)) (hostTap P w 2 2)

/-- The kernel's convolution of padded rows: the nine taps and the bias. -/
def kernelConv (P : FVec Ideal S16x18x18x64 .f32) (w : Vec Ideal S3x3x64x64 .f32) (b : Vec Ideal S1x64 .f32) : FVec Ideal S4096x64 .f32 :=
  addf (addf (addf (addf (addf (addf (addf (addf (addf (addf (broadcast S4096x64 (Scalar.ofBits .f32 0x00000000#32)) (kernelTap P w 0 0)) (kernelTap P w 0 1))
    (kernelTap P w 0 2)) (kernelTap P w 1 0)) (kernelTap P w 1 1)) (kernelTap P w 1 2)) (kernelTap P w 2 0)) (kernelTap P w 2 1)) (kernelTap P w 2 2))
    (broadcastTo S4096x64 (shapeCast S1x64 (shapeCast S64 b shapeCasts_S1x64_S64) shapeCasts_S64_S1x64) broadcasts_S1x64_S4096x64)

/-- The kernel's convolution is the host's: the taps are the same, the bias is added last and not first. -/
theorem conv (P : FVec Ideal S16x18x18x64 .f32) {w : Vec Ideal S3x3x64x64 .f32} {w' : FVec Ideal Reference11Ideal.S64x64x3x3 .f32} {b : Vec Ideal S1x64 .f32} {b' : FVec Ideal S64 .f32}
    (h : ∀ i j c o, w (ix4 i j c o) = w' (ix4 o c i j)) (hb : ∀ o, b (ix2 0 o) = b' (ix1 o)) :
    kernelConv P w b = shapeCast S4096x64 (hostConv P w' b') shapeCasts_S16x16x16x64_S4096x64 := by
  unfold kernelConv
  simp only [kernelTap_eq _ h]
  funext j
  obtain ⟨r, o, rfl⟩ : ∃ (r : Fin 4096) (o : Fin 64), j = ix2 r o := ⟨j 0, j 1, eq_ix2 j⟩
  have b1 : broadcastTo S4096x64 (shapeCast S1x64 (shapeCast S64 b shapeCasts_S1x64_S64) shapeCasts_S64_S1x64) broadcasts_S1x64_S4096x64 (ix2 r o) = b' (ix1 o) := by
    pointwise
    exact hb o
  have b2 : shapeCast S4096x64 (broadcastInDim S16x16x16x64 ![0, 1, 2, 3] Reference11Ideal.Gen.bcast_S1x1x1x64_S16x16x16x64_0_1_2_3
      (broadcastInDim Reference11Ideal.S1x1x1x64 ![3] Reference11Ideal.Gen.bcast_S64_S1x1x1x64_3 b')) shapeCasts_S16x16x16x64_S4096x64 (ix2 r o) = b' (ix1 o) := by
    pointwise
  have z : (Scalar.ofBits (F := Ideal) .f32 0x00000000#32) = (0 : EReal) := by pointwise
  have sum : ∀ z a a' p t0 t1 t2 t3 t4 t5 t6 t7 t8 : EReal, z = 0 → a = p → a' = p →
      z + t0 + t1 + t2 + t3 + t4 + t5 + t6 + t7 + t8 + a = a' + t0 + t1 + t2 + t3 + t4 + t5 + t6 + t7 + t8 := by
    intro z a a' p t0 t1 t2 t3 t4 t5 t6 t7 t8 hz ha ha'
    rw [hz, ha, ha', zero_add]
    ac_rfl
  exact sum _ _ _ _ _ _ _ _ _ _ _ _ _ z b1 b2

/-- The weights and the bias of one of the four convolutions. -/
def weights (k : Fin 4) (W : FVec Ideal Reference11Ideal.S4x64x64x3x3 .f32) : FVec Ideal Reference11Ideal.S64x64x3x3 .f32 :=
  shapeCast _ (extractStridedSlice Reference11Ideal.S1x64x64x3x3 ![k.val, 0, 0, 0, 0] W
    ((by decide : ∀ k : Fin 4, Reference11Ideal.S4x64x64x3x3.Slices ![k.val, 0, 0, 0, 0] Reference11Ideal.S1x64x64x3x3) k)) Reference11Ideal.Gen.shapeCasts_S1x64x64x3x3_S64x64x3x3

def bias (k : Fin 4) (B : FVec Ideal S4x64 .f32) : FVec Ideal S64 .f32 :=
  shapeCast _ (extractStridedSlice S1x64 ![k.val, 0] B ((by decide : ∀ k : Fin 4, S4x64.Slices ![k.val, 0] S1x64) k)) shapeCasts_S1x64_S64

/-- The kernel's weights are the same with the two axes of the shift first and the inputs before the outputs. -/
theorem weights_apply (k : Fin 4) (W : FVec Ideal Reference11Ideal.S4x64x64x3x3 .f32) (ht) (hs : S4x3x3x64x64.Slices ![k.val, 0, 0, 0, 0] S1x3x3x64x64) (hc) (i j : Fin 3) (c o : Fin 64) :
    shapeCast S3x3x64x64 (extractStridedSlice S1x3x3x64x64 ![k.val, 0, 0, 0, 0] (transpose S4x3x3x64x64 [0, 3, 4, 2, 1] W ht) hs) hc (ix4 i j c o) = weights k W (ix4 o c i j) := by
  unfold weights
  pointwise

theorem bias_apply (k : Fin 4) (B : FVec Ideal S4x64 .f32) (hs : S4x64.Slices ![k.val, 0] S1x64) (hc hb) (o : Fin 64) :
    broadcastInDim S1x64 ![1] hb (shapeCast S64 (extractStridedSlice S1x64 ![k.val, 0] B hs) hc) (ix2 0 o) = bias k B (ix1 o) := by
  unfold bias
  pointwise

/-- Rows mixed with their convolution, half and half: the rows `x`, the same as planes, the weights and the bias. -/
def mixed (x : FVec Ideal S4096x64 .f32) (x4 : FVec Ideal S16x16x16x64 .f32) (w : FVec Ideal Reference11Ideal.S64x64x3x3 .f32) (b : FVec Ideal S64 .f32) : FVec Ideal S4096x64 .f32 :=
  addf (mulf x (broadcastInDim S4096x64 ![] Reference11Ideal.Gen.bcast_S_S4096x64 (constant Reference11Ideal.S_ .f32 0x3F000000#32)))
    (mulf (shapeCast S4096x64 (hostConv (pad S16x18x18x64 ![0, 1, 1, 0] ![0, 1, 1, 0] ![0, 0, 0, 0] x4
        (sitofp (F := Ideal) .f32 (constantI Reference11Ideal.S_ 32 0#32)) Reference11Ideal.Gen.pads_S16x16x16x64_S16x18x18x64_000_110_110_000 Reference11Ideal.Gen.h_S_)
        w b) shapeCasts_S16x16x16x64_S4096x64)
      (broadcastInDim S4096x64 ![] Reference11Ideal.Gen.bcast_S_S4096x64 (constant Reference11Ideal.S_ .f32 0x3F000000#32)))

/-- The mixture as the kernel takes it. -/
def kernelMixed (x : FVec Ideal S4096x64 .f32) (w : Vec Ideal S3x3x64x64 .f32) (b : Vec Ideal S1x64 .f32) : FVec Ideal S4096x64 .f32 :=
  addf (mulf x (broadcast S4096x64 (Scalar.ofBits .f32 0x3F000000#32))) (mulf (kernelConv (k0_pay6 x) w b) (broadcast S4096x64 (Scalar.ofBits .f32 0x3F000000#32)))

theorem kernelMixed_eq (x : FVec Ideal S4096x64 .f32) {x4 : FVec Ideal S16x16x16x64 .f32} {w : Vec Ideal S3x3x64x64 .f32} {b : Vec Ideal S1x64 .f32} {w' b'}
    (hx : shapeCast S16x16x16x64 x shapeCasts_S4096x64_S16x16x16x64 = x4) (h : ∀ i j c o, w (ix4 i j c o) = w' (ix4 o c i j)) (hb : ∀ o, b (ix2 0 o) = b' (ix1 o)) :
    kernelMixed x w b = mixed x x4 w' b' := by
  unfold kernelMixed
  rw [conv _ h hb, padded, hx]
  rfl

/-- A quarter of the mean square of a difference, and the mean square. -/
def partialLoss (d : FVec Ideal S4096x64 .f32) : FVec Ideal S1x1 .f32 :=
  shapeCast S1x1 (addf
    (mulf (Host.divf (Host.reduceAdd (mulf d d) (constant Reference11Ideal.S_ .f32 0x00000000#32) Reference11Ideal.Gen.reducesTo_S4096x64_S_d0_1 Reference11Ideal.Gen.h_S_)
      (constant Reference11Ideal.S_ .f32 0x48800000#32)) (constant Reference11Ideal.S_ .f32 0x3E800000#32))
    (Host.divf (Host.reduceAdd (mulf d d) (constant Reference11Ideal.S_ .f32 0x00000000#32) Reference11Ideal.Gen.reducesTo_S4096x64_S_d0_1 Reference11Ideal.Gen.h_S_)
      (constant Reference11Ideal.S_ .f32 0x48800000#32))) Reference11Ideal.Gen.shapeCasts_S_S1x1

/-- The same as the kernel takes it. -/
def kernelLoss (d : FVec Ideal S4096x64 .f32) : FVec Ideal S1x1 .f32 :=
  broadcast S1x1 (Scalar.addf (Scalar.mulf (Scalar.divf (total d) (Scalar.ofBits .f32 0x48800000#32)) (Scalar.ofBits .f32 0x3E800000#32)) (Scalar.divf (total d) (Scalar.ofBits .f32 0x48800000#32)))
where
  total (d : FVec Ideal S4096x64 .f32) : Ideal .f32 :=
    extractAt ![0, 0, 0] (shapeCast S1x1x1 (multiReduction .add [1, 2] S1 (shapeCast S1x4096x64 (mulf d d) shapeCasts_S4096x64_S1x4096x64) 0x00000000#32 reduces_S1x4096x64_S1 (.inl rfl) rfl)
      shapeCasts_S1_S1x1x1) inpos_S1x1x1_p0_0_0

theorem kernelLoss_eq (d : FVec Ideal S4096x64 .f32) : kernelLoss d = partialLoss d := by
  unfold kernelLoss kernelLoss.total partialLoss
  funext j
  pointwise

end Cert.Update
namespace Cert.Kernel11Ideal.Value

open Cert.Kernel11Ideal Cert.Kernel11Ideal.Gen Cert.Update Idealize.ShloMosaic Idealize.ShloMosaic.TcCoe Idealize.SL.Sem

/-- Every window's block is its whole array. -/
theorem index_zero : ∀ t : Fin cfg0.N, (∀ a, win0_0.index t a = 0) ∧ (∀ a, win0_1.index t a = 0) ∧ (∀ a, win0_2.index t a = 0) ∧ (∀ a, win0_3.index t a = 0)
    ∧ (∀ a, win0_4.index t a = 0) ∧ (∀ a, win0_5.index t a = 0) ∧ (∀ a, win0_6.index t a = 0) ∧ (∀ a, win0_7.index t a = 0) ∧ (∀ a, win0_8.index t a = 0) := by decide +kernel

variable (m : (ℓ : Loc nD τ sig) → Buf (Elt Ideal) ℓ) (c : Dev nD)

/-- The rows, the weights, the bias, the image, the residual and the sum so far. -/
abbrev X : FVec Ideal S4096x64 .f32 := m ((c.tc : Thread nD τ).loc main_arg0)
abbrev W : FVec Ideal S4x64x64x3x3 .f32 := m ((c.tc : Thread nD τ).loc main_arg1)
abbrev B : FVec Ideal S4x64 .f32 := m ((c.tc : Thread nD τ).loc main_arg2)
abbrev f0 : FVec Ideal S4096x64 .f32 := m ((c.tc : Thread nD τ).loc main_arg3)
abbrev fr : FVec Ideal S4096x64 .f32 := m ((c.tc : Thread nD τ).loc main_arg4)
abbrev fh : FVec Ideal S4096x64 .f32 := m ((c.tc : Thread nD τ).loc main_arg5)

theorem block0 (t : Fin cfg0.N) : iblk m c 0 t = X m c := funext fun j => (congrArg (V m c main_arg0) (place_whole (index_zero t).1 _ j)).trans (congrFun (V_main_arg0 m c) j)
theorem block1 (t : Fin cfg0.N) : iblk m c 1 t = V m c main_v2 := funext fun j => congrArg (V m c main_v2) (place_whole (index_zero t).2.1 _ j)
theorem block2 (t : Fin cfg0.N) : iblk m c 2 t = V m c main_v5 := funext fun j => congrArg (V m c main_v5) (place_whole (index_zero t).2.2.1 _ j)
theorem block3 (t : Fin cfg0.N) : iblk m c 3 t = f0 m c := funext fun j => (congrArg (V m c main_arg3) (place_whole (index_zero t).2.2.2.1 _ j)).trans (congrFun (V_main_arg3 m c) j)
theorem block4 (t : Fin cfg0.N) : iblk m c 4 t = fr m c := funext fun j => (congrArg (V m c main_arg4) (place_whole (index_zero t).2.2.2.2.1 _ j)).trans (congrFun (V_main_arg4 m c) j)
theorem block5 (t : Fin cfg0.N) : iblk m c 5 t = fh m c := funext fun j => (congrArg (V m c main_arg5) (place_whole (index_zero t).2.2.2.2.2.1 _ j)).trans (congrFun (V_main_arg5 m c) j)

theorem weights_eq (i j : Fin 3) (k o : Fin 64) : V m c main_v2 (ix4 i j k o) = weights 3 (W m c) (ix4 o k i j) :=
  (congrFun (by unfold V; after_results; rfl) _).trans
    (weights_apply 3 (W m c) transposes_S4x64x64x3x3_S4x3x3x64x64_0_3_4_2_1 slices_S4x3x3x64x64_S1x3x3x64x64_3_0_0_0_0 shapeCasts_S1x3x3x64x64_S3x3x64x64 i j k o)

theorem bias_eq (o : Fin 64) : V m c main_v5 (ix2 0 o) = bias 3 (B m c) (ix1 o) :=
  (congrFun (by unfold V; after_results; rfl) _).trans (bias_apply 3 (B m c) slices_S4x64_S1x64_3_0 shapeCasts_S1x64_S64 bcast_S64_S1x64_1 o)

/-- The rows mixed with the last convolution of them. -/
abbrev new : FVec Ideal S4096x64 .f32 := mixed (X m c) (shapeCast S16x16x16x64 (X m c) shapeCasts_S4096x64_S16x16x16x64) (weights 3 (W m c)) (bias 3 (B m c))

/-- What the last update leaves: the residual, the image by way of the straight-through sum, and the partial loss. -/
abbrev rest : FVec Ideal S4096x64 .f32 := subf (fr m c) (new m c)
abbrev image : FVec Ideal S4096x64 .f32 := addf (subf (addf (fh m c) (new m c)) (f0 m c)) (f0 m c)
abbrev loss : FVec Ideal S1x1 .f32 := partialLoss (subf (addf (fh m c) (new m c)) (f0 m c))

theorem hz : (![0, 0] : Fin 2 → Nat) = fun _ => 0 := funext fun a => by fin_cases a <;> rfl

theorem load (x : Vec Ideal S4096x64 .f32) : View.ld (Val := Elt Ideal) x r0_0 = x := View.ld_unit_zero (S := S4096x64) hz _ x

theorem new_eq : k0_pay1 (F := Ideal) (X m c) (k0_pay11 (X m c) (V m c main_v2) (V m c main_v5) (f0 m c) (fr m c) (fh m c)) (k0_pay12 (X m c) (V m c main_v2) (V m c main_v5) (f0 m c) (fr m c) (fh m c))
    = new m c := by
  unfold k0_pay11
  rw [load, View.ld_unit_zero (S := S1x64) hz _ (V m c main_v5)]
  exact kernelMixed_eq _ rfl (weights_eq m c) (bias_eq m c)

theorem out6 (t : Fin cfg0.N) : out0_6 (iblk m c 0 t) (iblk m c 1 t) (iblk m c 2 t) (iblk m c 3 t) (iblk m c 4 t) (iblk m c 5 t) = rest m c := by
  rw [block0, block1, block2, block3, block4, block5]
  unfold out0_6
  rw [View.canon_unit_zero hz, load, load]
  unfold k0_pay3
  rw [new_eq]

theorem out7 (t : Fin cfg0.N) : out0_7 (iblk m c 0 t) (iblk m c 1 t) (iblk m c 2 t) (iblk m c 3 t) (iblk m c 4 t) (iblk m c 5 t) = image m c := by
  rw [block0, block1, block2, block3, block4, block5]
  unfold out0_7
  rw [View.canon_unit_zero hz, load, load, load]
  unfold k0_pay4 k0_pay2
  rw [new_eq]

theorem out8 (t : Fin cfg0.N) : out0_8 (iblk m c 0 t) (iblk m c 1 t) (iblk m c 2 t) (iblk m c 3 t) (iblk m c 4 t) (iblk m c 5 t) = loss m c := by
  rw [block0, block1, block2, block3, block4, block5]
  unfold out0_8
  rw [View.canon_unit_zero hz, load, load, load]
  refine Eq.trans (b := kernelLoss (subf (k0_pay2 (F := Ideal) _ _ _ (fh m c)) (f0 m c))) rfl ?_
  rw [kernelLoss_eq]
  unfold k0_pay2
  rw [new_eq]

abbrev start : Fin cfg0.N := ⟨0, by decide⟩

theorem final6 : (dats m 0 c).arrAt 6 cfg0.N = rest m c := funext fun j =>
  (congrArg ((dats m 0 c).arrAt 6 cfg0.N) (place_whole (index_zero start).2.2.2.2.2.2.1 _ j)).symm.trans
    ((congrFun ((blocks6 m c start (flush0_6 _)).trans (flushed6 m c start)) j).trans (congrFun (out6 m c start) j))

theorem final7 : (dats m 0 c).arrAt 7 cfg0.N = image m c := funext fun j =>
  (congrArg ((dats m 0 c).arrAt 7 cfg0.N) (place_whole (index_zero start).2.2.2.2.2.2.2.1 _ j)).symm.trans
    ((congrFun ((blocks7 m c start (flush0_7 _)).trans (flushed7 m c start)) j).trans (congrFun (out7 m c start) j))

theorem final8 : (dats m 0 c).arrAt 8 cfg0.N = loss m c := funext fun j =>
  (congrArg ((dats m 0 c).arrAt 8 cfg0.N) (place_whole (index_zero start).2.2.2.2.2.2.2.2 _ j)).symm.trans
    ((congrFun ((blocks8 m c start (flush0_8 _)).trans (flushed8 m c start)) j).trans (congrFun (out8 m c start) j))

end Cert.Kernel11Ideal.Value

namespace Cert.Reference11Ideal.Value

open Cert.Reference11Ideal Cert.Reference11Ideal.Gen Cert.Update Idealize.ShloMosaic Idealize.ShloMosaic.StableHlo Idealize.SL.Sem

set_option synthInstance.maxHeartbeats 1000000 in -- a long host function
set_option synthInstance.maxSize 100000 in
set_option maxHeartbeats 4000000 in
/-- The reference leaves the residual, the image and the partial loss, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v60) = (subf (F := Ideal) (φ := .f32) (m ((c.tc : Thread nD τ).loc main_arg4)) (mixed (m ((c.tc : Thread nD τ).loc main_arg0)) (shapeCast _ (m ((c.tc : Thread nD τ).loc main_arg0)) shapeCasts_S4096x64_S16x16x16x64) (weights 3 (m ((c.tc : Thread nD τ).loc main_arg1))) (bias 3 (m ((c.tc : Thread nD τ).loc main_arg2)))) : FVec Ideal S4096x64 .f32)
      ∧ r.2.mem ((c.tc : Thread nD τ).loc main_v72) = (addf (F := Ideal) (φ := .f32) (subf (addf (m ((c.tc : Thread nD τ).loc main_arg5)) (mixed (m ((c.tc : Thread nD τ).loc main_arg0)) (shapeCast _ (m ((c.tc : Thread nD τ).loc main_arg0)) shapeCasts_S4096x64_S16x16x16x64) (weights 3 (m ((c.tc : Thread nD τ).loc main_arg1))) (bias 3 (m ((c.tc : Thread nD τ).loc main_arg2))))) (m ((c.tc : Thread nD τ).loc main_arg3))) (m ((c.tc : Thread nD τ).loc main_arg3)) : FVec Ideal S4096x64 .f32)
      ∧ r.2.mem ((c.tc : Thread nD τ).loc main_v73) = partialLoss (subf (addf (m ((c.tc : Thread nD τ).loc main_arg5)) (mixed (m ((c.tc : Thread nD τ).loc main_arg0)) (shapeCast _ (m ((c.tc : Thread nD τ).loc main_arg0)) shapeCasts_S4096x64_S16x16x16x64) (weights 3 (m ((c.tc : Thread nD τ).loc main_arg1))) (bias 3 (m ((c.tc : Thread nD τ).loc main_arg2))))) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c main_v60).trans ?_, (h c main_v72).trans ?_, (h c main_v73).trans ?_, (h c main_arg0).trans ?_, (h c main_arg1).trans ?_,
      (h c main_arg2).trans ?_, (h c main_arg3).trans ?_, (h c main_arg4).trans ?_, (h c main_arg5).trans ?_⟩)
    (Line.run (by decide) (by decide) defs main (fun _ => by delta main main_part0 main_part1 fn_pad.body; infer_instance) m ρ) <;>
    simp only [List.cons_append, List.nil_append] <;> after_results_simp
  · rfl
  · rfl
  · rfl

theorem frame : Cert.quiescent_Reference11Ideal := fun m ρ _ =>
  (θ_run defs _ _).mono (fun r h => ⟨fun c => (h c).2.2.2, sem_eq_zero_of_no_sems (by decide) r.2⟩) (run m ρ)

/-- The kernel and the reference leave the same residual, the same image and the same partial loss. -/
theorem algebraic : Cert.algebraic_Kernel11Ideal_Reference11Ideal := fun m ρ m' ρ' _ hagree =>
  ⟨Kernel11Ideal.Value.rest m, Kernel11Ideal.Value.image m, Kernel11Ideal.Value.loss m,
    (θ_run Kernel11Ideal.defs _ _).mono (fun _ h c => ⟨(h c).1.trans (Kernel11Ideal.Value.final6 m c), (h c).2.1.trans (Kernel11Ideal.Value.final7 m c),
      (h c).2.2.1.trans (Kernel11Ideal.Value.final8 m c), (h c).2.2.2⟩) (Kernel11Ideal.Value.run_blocks (F := Ideal) m ρ),
    (θ_run defs _ _).mono (fun _ h c => by
      obtain ⟨h0, h1, h2, h3, h4, h5⟩ := hagree c
      obtain ⟨hr, hi, hl, hk⟩ := h c
      rw [h0, h1, h2, h4] at hr
      rw [h0, h1, h2, h3, h5] at hi hl
      exact ⟨hr, hi, hl, hk⟩) (run m' ρ')⟩

end Cert.Reference11Ideal.Value

end
-- ==== Proof.Last.lean ====
/-
  The last call, which adds the counts and the losses of the ten scales: the sums over ten stacked rows, the total of a
  row and the perplexity of it, and the claim of the program.
-/
module

public import proofs.«01_k».proof.Proof.Codebook
public import proofs.«01_k».proof.Proof.Line
public import proofs.«01_k».proof.Defs
public import proofs.«01_k».proof.Proof.Gen.Kernel12Ideal.Value
public import proofs.«01_k».proof.Proof.Gen.Reference12Ideal

@[expose] public section

set_option maxRecDepth 16384

noncomputable section

namespace Cert.Last

open Idealize.ShloMosaic

/-- Ten rows, to be stacked. -/
abbrev stack {n : Nat} (a0 a1 a2 a3 a4 a5 a6 a7 a8 a9 : FVec Ideal ⟨2, ![1, n]⟩ .f32) : List ((s : Shape) × (s.Idx → Ideal .f32)) :=
  [⟨⟨2, ![1, n]⟩, a0⟩, ⟨⟨2, ![1, n]⟩, a1⟩, ⟨⟨2, ![1, n]⟩, a2⟩, ⟨⟨2, ![1, n]⟩, a3⟩, ⟨⟨2, ![1, n]⟩, a4⟩, ⟨⟨2, ![1, n]⟩, a5⟩, ⟨⟨2, ![1, n]⟩, a6⟩, ⟨⟨2, ![1, n]⟩, a7⟩,
    ⟨⟨2, ![1, n]⟩, a8⟩, ⟨⟨2, ![1, n]⟩, a9⟩]

/-- The ten stacked rows added at a lane. -/
theorem stack_sum {n : Nat} (a0 a1 a2 a3 a4 a5 a6 a7 a8 a9 : FVec Ideal ⟨2, ![1, n]⟩ .f32)
    (h : Shape.Concatenates ((stack a0 a1 a2 a3 a4 a5 a6 a7 a8 a9).map (·.1)) ⟨2, ![10, n]⟩ 0) (k : Fin n) :
    ∑ i, concatenate ⟨2, ![10, n]⟩ 0 (stack a0 a1 a2 a3 a4 a5 a6 a7 a8 a9) h (ix2 i k)
      = a0 (ix2 0 k) + a1 (ix2 0 k) + a2 (ix2 0 k) + a3 (ix2 0 k) + a4 (ix2 0 k) + a5 (ix2 0 k) + a6 (ix2 0 k) + a7 (ix2 0 k) + a8 (ix2 0 k) + a9 (ix2 0 k) := by
  have e : ∀ i, concatenate ⟨2, ![10, n]⟩ 0 (stack a0 a1 a2 a3 a4 a5 a6 a7 a8 a9) h (ix2 i k)
      = (![a0, a1, a2, a3, a4, a5, a6, a7, a8, a9] i) (ix2 0 k) := by
    intro i
    match i with
    | 0 | 1 | 2 | 3 | 4 | 5 | 6 | 7 | 8 | 9 =>
      pointwise
      exact congrArg _ (funext fun b => by match b with | ⟨0, _⟩ => rfl | ⟨1, _⟩ => rfl)
  rw [Finset.sum_congr rfl fun i _ => e i]
  simp only [Fin.sum_univ_castSucc, Fin.sum_univ_zero, zero_add]
  rfl

/-- The host's sum over the stack, lane by lane and in total. -/
theorem stack_columns {n : Nat} (x : FVec Ideal ⟨2, ![10, n]⟩ .f32) (hr : (⟨2, ![10, n]⟩ : Shape).ReducesTo [0] ⟨1, ![n]⟩) (hu : 0 < (⟨0, ![]⟩ : Shape).numel) (k : Fin n) :
    Host.reduceAdd (F := Ideal) x (constant ⟨0, ![]⟩ .f32 0x00000000#32) hr hu (ix1 k) = ∑ i, x (ix2 i k) := by pointwise

theorem stack_total (x : FVec Ideal ⟨2, ![10, 1]⟩ .f32) (hr : (⟨2, ![10, 1]⟩ : Shape).ReducesTo [0, 1] ⟨0, ![]⟩) (hu : 0 < (⟨0, ![]⟩ : Shape).numel) (j) :
    Host.reduceAdd (F := Ideal) x (constant ⟨0, ![]⟩ .f32 0x00000000#32) hr hu j = ∑ i, x (ix2 i 0) := by
  pointwise
  simp only [Fin.sum_univ_one, Fin.isValue]

/-- The total of a row, as the kernel takes it and as the host takes it. -/
theorem kernel_total (v : FVec Ideal ⟨2, ![1, 8192]⟩ .f32) :
    extractAt ![0, 0, 0] (shapeCast (⟨3, ![1, 1, 1]⟩ : Shape) (multiReduction .add [1, 2] ⟨1, ![1]⟩ (shapeCast ⟨3, ![1, 1, 8192]⟩ v Kernel12Ideal.Gen.shapeCasts_S1x8192_S1x1x8192)
      0x00000000#32 Kernel12Ideal.Gen.reduces_S1x1x8192_S1 (.inl rfl) rfl) Kernel12Ideal.Gen.shapeCasts_S1_S1x1x1) Kernel12Ideal.Gen.inpos_S1x1x1_p0_0_0 = ∑ k, v (ix2 0 k) := by
  pointwise
  simp only [Fin.sum_univ_one, Fin.isValue]

theorem host_total (s : FVec Ideal ⟨1, ![8192]⟩ .f32) (hr : (⟨1, ![8192]⟩ : Shape).ReducesTo [0] ⟨0, ![]⟩) (hu : 0 < (⟨0, ![]⟩ : Shape).numel) (j) :
    Host.reduceAdd (F := Ideal) s (constant ⟨0, ![]⟩ .f32 0x00000000#32) hr hu j = ∑ k, s (ix1 k) := by pointwise

open Cert.Kernel12Ideal Cert.Kernel12Ideal.Gen in
/-- The reference's perplexity of the counts is the kernel's. -/
theorem perp_pay (v : FVec Ideal S1x8192 .f32) (s : FVec Ideal ⟨1, ![8192]⟩ .f32) (h : ∀ k, s (ix1 k) = v (ix2 0 k))
    (hr : (⟨1, ![8192]⟩ : Shape).ReducesTo [0] ⟨0, ![]⟩) (hu : 0 < (⟨0, ![]⟩ : Shape).numel) (b : (⟨0, ![]⟩ : Shape).BroadcastsInDim ⟨1, ![8192]⟩ ![]) (hc : (⟨0, ![]⟩ : Shape).ShapeCasts S1x1) :
    shapeCast S1x1 (Host.exp (Host.negf (Host.reduceAdd (F := Ideal)
      (mulf (Host.divf s (broadcastInDim ⟨1, ![8192]⟩ ![] b (Host.reduceAdd s (constant ⟨0, ![]⟩ .f32 0x00000000#32) hr hu)))
        (Host.log (addf (Host.divf s (broadcastInDim ⟨1, ![8192]⟩ ![] b (Host.reduceAdd s (constant ⟨0, ![]⟩ .f32 0x00000000#32) hr hu)))
          (broadcastInDim ⟨1, ![8192]⟩ ![] b (constant ⟨0, ![]⟩ .f32 0x2EDBE6FF#32))))) (constant ⟨0, ![]⟩ .f32 0x00000000#32) hr hu))) hc = k0_pay2 (F := Ideal) v := by
  unfold k0_pay2
  funext j
  pointwise
  simp only [h, Fin.sum_univ_one, Fin.isValue, zero_sub]
  rfl

open Cert.Kernel12Ideal Cert.Kernel12Ideal.Gen in
/-- The reference's mean of the losses is the kernel's. -/
theorem loss_pay (a0 a1 a2 a3 a4 a5 a6 a7 a8 a9 : FVec Ideal S1x1 .f32) (h hr hu) (hc : (⟨0, ![]⟩ : Shape).ShapeCasts S1x1) :
    shapeCast S1x1 (Host.divf (Host.reduceAdd (F := Ideal) (t := ⟨0, ![]⟩) (u := ⟨0, ![]⟩) (axes := [0, 1]) (concatenate ⟨2, ![10, 1]⟩ 0 (stack a0 a1 a2 a3 a4 a5 a6 a7 a8 a9) h)
      (constant ⟨0, ![]⟩ .f32 0x00000000#32) hr hu) (constant ⟨0, ![]⟩ .f32 0x41200000#32)) hc = k0_pay1 (F := Ideal) (k0_pay4 a0 a1 a2 a3 a4) a5 a6 a7 a8 a9 := by
  funext j
  obtain ⟨x, y, rfl⟩ : ∃ x y : Fin 1, j = ix2 x y := ⟨j 0, j 1, eq_ix2 j⟩
  obtain rfl := Subsingleton.elim x 0
  obtain rfl := Subsingleton.elim y 0
  refine (congrArg (fun z : EReal => FloatOps.hostDivf (F := Ideal) (φ := .f32) z (Scalar.ofBits .f32 0x41200000#32)) ((stack_total _ hr hu _).trans (stack_sum a0 a1 a2 a3 a4 a5 a6 a7 a8 a9 h 0)) : _)

end Cert.Last

namespace Cert.Reference12Ideal.Value

open Cert.Reference12Ideal Cert.Reference12Ideal.Gen Cert.Last Idealize.ShloMosaic Idealize.ShloMosaic.StableHlo Idealize.SL.Sem

/-- The reference leaves the mean of the losses and the perplexity of the added counts, as the kernel's payloads have them, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v15) = Kernel12Ideal.Value.G20 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_v16) = Kernel12Ideal.Value.G21 (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19) := by
  refine (θ_run defs _ _).mono (fun r h c => ⟨(h c main_v15).trans ?_, (h c main_v16).trans ?_, (h c main_arg0).trans ?_, (h c main_arg1).trans ?_, (h c main_arg2).trans ?_, (h c main_arg3).trans ?_, (h c main_arg4).trans ?_, (h c main_arg5).trans ?_, (h c main_arg6).trans ?_, (h c main_arg7).trans ?_, (h c main_arg8).trans ?_, (h c main_arg9).trans ?_, (h c main_arg10).trans ?_, (h c main_arg11).trans ?_, (h c main_arg12).trans ?_, (h c main_arg13).trans ?_, (h c main_arg14).trans ?_, (h c main_arg15).trans ?_, (h c main_arg16).trans ?_, (h c main_arg17).trans ?_, (h c main_arg18).trans ?_, (h c main_arg19).trans ?_⟩)
    (Line.run (by decide) (by decide) defs main (fun _ => by delta main; infer_instance) m ρ) <;>
    after_results_simp
  · exact loss_pay _ _ _ _ _ _ _ _ _ _ _ _ _ _
  · exact perp_pay _ _ (fun k => (stack_columns _ _ _ k).trans (stack_sum _ _ _ _ _ _ _ _ _ _ _ k)) _ _ _ _

theorem frame : Cert.quiescent_Reference12Ideal := fun m ρ _ =>
  (θ_run defs _ _).mono (fun r h => ⟨fun c => (h c).2.2, sem_eq_zero_of_no_sems (by decide) r.2⟩) (run m ρ)

/-- The kernel and the reference leave the same mean loss and the same perplexity. -/
theorem algebraic : Cert.algebraic_Kernel12Ideal_Reference12Ideal := fun m ρ m' ρ' _ hagree =>
  ⟨fun c => Kernel12Ideal.Value.G20 (m ((c.tc : Thread Kernel12Ideal.nD Kernel12Ideal.τ).loc Kernel12Ideal.main_arg0)) (m ((c.tc : Thread Kernel12Ideal.nD Kernel12Ideal.τ).loc Kernel12Ideal.main_arg1)) (m ((c.tc : Thread Kernel12Ideal.nD Kernel12Ideal.τ).loc Kernel12Ideal.main_arg2)) (m ((c.tc : Thread Kernel12Ideal.nD Kernel12Ideal.τ).loc Kernel12Ideal.main_arg3)) (m ((c.tc : Thread Kernel12Ideal.nD Kernel12Ideal.τ).loc Kernel12Ideal.main_arg4)) (m ((c.tc : Thread Kernel12Ideal.nD Kernel12Ideal.τ).loc Kernel12Ideal.main_arg5)) (m ((c.tc : Thread Kernel12Ideal.nD Kernel12Ideal.τ).loc Kernel12Ideal.main_arg6)) (m ((c.tc : Thread Kernel12Ideal.nD Kernel12Ideal.τ).loc Kernel12Ideal.main_arg7)) (m ((c.tc : Thread Kernel12Ideal.nD Kernel12Ideal.τ).loc Kernel12Ideal.main_arg8)) (m ((c.tc : Thread Kernel12Ideal.nD Kernel12Ideal.τ).loc Kernel12Ideal.main_arg9)) (m ((c.tc : Thread Kernel12Ideal.nD Kernel12Ideal.τ).loc Kernel12Ideal.main_arg10)) (m ((c.tc : Thread Kernel12Ideal.nD Kernel12Ideal.τ).loc Kernel12Ideal.main_arg11)) (m ((c.tc : Thread Kernel12Ideal.nD Kernel12Ideal.τ).loc Kernel12Ideal.main_arg12)) (m ((c.tc : Thread Kernel12Ideal.nD Kernel12Ideal.τ).loc Kernel12Ideal.main_arg13)) (m ((c.tc : Thread Kernel12Ideal.nD Kernel12Ideal.τ).loc Kernel12Ideal.main_arg14)) (m ((c.tc : Thread Kernel12Ideal.nD Kernel12Ideal.τ).loc Kernel12Ideal.main_arg15)) (m ((c.tc : Thread Kernel12Ideal.nD Kernel12Ideal.τ).loc Kernel12Ideal.main_arg16)) (m ((c.tc : Thread Kernel12Ideal.nD Kernel12Ideal.τ).loc Kernel12Ideal.main_arg17)) (m ((c.tc : Thread Kernel12Ideal.nD Kernel12Ideal.τ).loc Kernel12Ideal.main_arg18)) (m ((c.tc : Thread Kernel12Ideal.nD Kernel12Ideal.τ).loc Kernel12Ideal.main_arg19)),
    fun c => Kernel12Ideal.Value.G21 (m ((c.tc : Thread Kernel12Ideal.nD Kernel12Ideal.τ).loc Kernel12Ideal.main_arg0)) (m ((c.tc : Thread Kernel12Ideal.nD Kernel12Ideal.τ).loc Kernel12Ideal.main_arg1)) (m ((c.tc : Thread Kernel12Ideal.nD Kernel12Ideal.τ).loc Kernel12Ideal.main_arg2)) (m ((c.tc : Thread Kernel12Ideal.nD Kernel12Ideal.τ).loc Kernel12Ideal.main_arg3)) (m ((c.tc : Thread Kernel12Ideal.nD Kernel12Ideal.τ).loc Kernel12Ideal.main_arg4)) (m ((c.tc : Thread Kernel12Ideal.nD Kernel12Ideal.τ).loc Kernel12Ideal.main_arg5)) (m ((c.tc : Thread Kernel12Ideal.nD Kernel12Ideal.τ).loc Kernel12Ideal.main_arg6)) (m ((c.tc : Thread Kernel12Ideal.nD Kernel12Ideal.τ).loc Kernel12Ideal.main_arg7)) (m ((c.tc : Thread Kernel12Ideal.nD Kernel12Ideal.τ).loc Kernel12Ideal.main_arg8)) (m ((c.tc : Thread Kernel12Ideal.nD Kernel12Ideal.τ).loc Kernel12Ideal.main_arg9)) (m ((c.tc : Thread Kernel12Ideal.nD Kernel12Ideal.τ).loc Kernel12Ideal.main_arg10)) (m ((c.tc : Thread Kernel12Ideal.nD Kernel12Ideal.τ).loc Kernel12Ideal.main_arg11)) (m ((c.tc : Thread Kernel12Ideal.nD Kernel12Ideal.τ).loc Kernel12Ideal.main_arg12)) (m ((c.tc : Thread Kernel12Ideal.nD Kernel12Ideal.τ).loc Kernel12Ideal.main_arg13)) (m ((c.tc : Thread Kernel12Ideal.nD Kernel12Ideal.τ).loc Kernel12Ideal.main_arg14)) (m ((c.tc : Thread Kernel12Ideal.nD Kernel12Ideal.τ).loc Kernel12Ideal.main_arg15)) (m ((c.tc : Thread Kernel12Ideal.nD Kernel12Ideal.τ).loc Kernel12Ideal.main_arg16)) (m ((c.tc : Thread Kernel12Ideal.nD Kernel12Ideal.τ).loc Kernel12Ideal.main_arg17)) (m ((c.tc : Thread Kernel12Ideal.nD Kernel12Ideal.τ).loc Kernel12Ideal.main_arg18)) (m ((c.tc : Thread Kernel12Ideal.nD Kernel12Ideal.τ).loc Kernel12Ideal.main_arg19)),
    Kernel12Ideal.Value.run (F := Ideal) m ρ,
    (θ_run defs _ _).mono (fun _ h c => by
      obtain ⟨h0, h1, h2, h3, h4, h5, h6, h7, h8, h9, h10, h11, h12, h13, h14, h15, h16, h17, h18, h19⟩ := hagree c
      obtain ⟨hl, hp, hk⟩ := h c
      rw [h0, h1, h2, h3, h4, h5, h6, h7, h8, h9, h10, h11, h12, h13, h14, h15, h16, h17, h18, h19] at hl hp
      exact ⟨hl, hp, hk⟩) (run m' ρ')⟩

end Cert.Reference12Ideal.Value

end
-- ==== Proof.Pool.lean ====
/-
  The rows of a scale, the means of its windows: sixteen planes one on the other, a table that acts on one of the two
  axes of a plane, and the kernel's two products as the host's two contractions.
-/
module

public import proofs.«01_k».proof.Proof.SearchBlock

@[expose] public section

set_option maxRecDepth 16384

noncomputable section

namespace Cert.Pool

open Idealize.ShloMosaic

theorem lt_mul {n k : Nat} (i : Fin n) (j : Fin k) : i.val * k + j.val < n * k :=
  Nat.lt_of_lt_of_le (Nat.add_lt_add_left j.isLt _) (by rw [← Nat.succ_mul]; exact Nat.mul_le_mul_right _ i.isLt)

/-- A place of a plane, by its line and its place in the line; every place is one. -/
abbrev at' {n k m : Nat} (hm : m = n * k) (i : Fin n) (j : Fin k) : Fin m := ⟨i.val * k + j.val, hm ▸ lt_mul i j⟩

theorem exists_at {n k m : Nat} (hm : m = n * k) (r : Fin m) : ∃ i j, r = at' hm i j := by
  subst hm
  have hk : 0 < k := Nat.pos_of_ne_zero fun h => by have := r.isLt; simp [h] at this
  exact ⟨⟨r.val / k, (Nat.div_lt_iff_lt_mul hk).mpr r.isLt⟩, ⟨r.val % k, Nat.mod_lt _ hk⟩, Fin.ext (Nat.div_add_mod' r.val k).symm⟩

/-- A row of a stack of sixteen planes is a row of its plane. -/
theorem stack_apply {n k m : Nat} (y : Fin 16 → FVec Ideal ⟨2, ![n, k]⟩ .f32)
    (h : Shape.Concatenates ((List.ofFn fun b : Fin 16 => (⟨⟨2, ![n, k]⟩, y b⟩ : (s : Shape) × (s.Idx → Ideal .f32))).map (·.1)) ⟨2, ![m, k]⟩ 0)
    (hm : m = 16 * n) (b : Fin 16) (q : Fin n) (c : Fin k) :
    concatenate ⟨2, ![m, k]⟩ 0 (List.ofFn fun b : Fin 16 => (⟨⟨2, ![n, k]⟩, y b⟩ : (s : Shape) × (s.Idx → Ideal .f32))) h (ix2 (at' hm b q) c) = y b (ix2 q c) := by
  have hn : 0 < n := Nat.lt_of_le_of_lt (Nat.zero_le _) q.isLt
  refine concatenate_ofFn_apply 0 y h rfl n rfl _ b ?_ _ ?_ ?_
  · show (b.val * n + q.val) / n = b.val
    rw [Nat.add_comm, Nat.add_mul_div_right _ _ hn, Nat.div_eq_of_lt q.isLt, Nat.zero_add]
  · show q.val = (b.val * n + q.val) % n
    rw [Nat.mul_add_mod', Nat.mod_eq_of_lt q.isLt]
  · intro a ha
    match a with
    | ⟨0, _⟩ => exact absurd rfl ha
    | ⟨1, _⟩ => rfl

/-- A sum over the places of a plane, line by line. -/
theorem sum_lines {n k m : Nat} (hm : m = n * k) (f : Fin m → EReal) :
    ∑ p, f p = ∑ i : Fin n, ∑ j : Fin k, f (at' hm i j) := by
  subst hm
  rw [← Fintype.sum_prod_type', ← finProdFinEquiv.sum_comp]
  refine Finset.sum_congr rfl fun x _ => congrArg f (Fin.ext ?_)
  show x.2.val + k * x.1.val = x.1.val * k + x.2.val
  rw [Nat.mul_comm, Nat.add_comm]

/-- A table that acts on the lines and leaves the places in them: its product with a plane. -/
theorem sum_place {n k m : Nat} (hm : m = n * k) (a : Fin n → EReal) (d f : Fin m → EReal) (l : Fin k)
    (h : ∀ i j, d (at' hm i j) = if j = l then a i else 0) :
    ∑ p, d p * f p = ∑ i : Fin n, a i * f (at' hm i l) := by
  rw [sum_lines hm]
  refine Finset.sum_congr rfl fun i _ => ?_
  rw [Finset.sum_eq_single l]
  · rw [h, if_pos rfl]
  · intro j _ hj
    rw [h, if_neg hj, zero_mul]
  · intro hl
    exact absurd (Finset.mem_univ l) hl

/-- A table that acts on the places and leaves the lines: its product with a plane. -/
theorem sum_line {n k m : Nat} (hm : m = n * k) (a : Fin k → EReal) (d f : Fin m → EReal) (s : Fin n)
    (h : ∀ i j, d (at' hm i j) = if i = s then a j else 0) :
    ∑ p, d p * f p = ∑ j : Fin k, a j * f (at' hm s j) := by
  rw [sum_lines hm, Finset.sum_eq_single s]
  · exact Finset.sum_congr rfl fun j _ => by rw [h, if_pos rfl]
  · intro i _ hi
    exact Finset.sum_eq_zero fun j _ => by rw [h, if_neg hi, zero_mul]
  · intro hs
    exact absurd (Finset.mem_univ s) hs

/-- One of the sixteen planes of the rows. -/
def plane (X : FVec Ideal ⟨2, ![4096, 64]⟩ .f32) (b : Fin 16) : FVec Ideal ⟨2, ![256, 64]⟩ .f32 :=
  extractStridedSlice ⟨2, ![256, 64]⟩ ![b.val * 256, 0] X ((by decide : ∀ b : Fin 16, (⟨2, ![4096, 64]⟩ : Shape).Slices ![b.val * 256, 0] ⟨2, ![256, 64]⟩) b)

theorem plane_apply (X : FVec Ideal ⟨2, ![4096, 64]⟩ .f32) (b : Fin 16) (q : Fin 256) (c : Fin 64) : plane X b (ix2 q c) = X (ix2 (at' rfl b q) c) := by
  unfold plane
  pointwise

/-- The kernel's rows of a scale of `n` windows a side, from its two tables: a plane at a time, the one axis and then the other. -/
def kernelRows {u v w : Nat} (d1 : DotDims ⟨2, ![u, 256]⟩ ⟨2, ![256, 64]⟩ ⟨2, ![u, 64]⟩) (d2 : DotDims ⟨2, ![v, u]⟩ ⟨2, ![u, 64]⟩ ⟨2, ![v, 64]⟩)
    (D1 : FVec Ideal ⟨2, ![u, 256]⟩ .f32) (D2 : FVec Ideal ⟨2, ![v, u]⟩ .f32) (X : FVec Ideal ⟨2, ![4096, 64]⟩ .f32)
    (h : Shape.Concatenates ((List.ofFn fun _ : Fin 16 => (⟨2, ![v, 64]⟩ : Shape))) ⟨2, ![w, 64]⟩ 0) : FVec Ideal ⟨2, ![w, 64]⟩ .f32 :=
  concatenate ⟨2, ![w, 64]⟩ 0 (List.ofFn fun b : Fin 16 => (⟨⟨2, ![v, 64]⟩, matmul (φ₁ := .f32) (φ₂ := .f32) d2 none D2
    (matmul (φ₁ := .f32) (φ₂ := .f32) d1 (some .fp32) D1 (plane X b) (constant ⟨2, ![u, 64]⟩ .f32 0x00000000#32)) (constant ⟨2, ![v, 64]⟩ .f32 0x00000000#32)⟩ :
      (s : Shape) × (s.Idx → Ideal .f32))) h

open Cert.Codebook in
/-- When the tables are the windows' weights on the one axis and on the other, the rows are the weighted sums over the windows. -/
theorem kernelRows_apply {n u v w : Nat} {d1 d2 D1 D2 X h} (hu : u = n * 16) (hv : v = n * n) (hw : w = 16 * v) (A : Fin n → Fin 16 → EReal)
    (p1 : Plain d1 (some .fp32)) (p2 : Plain d2 none)
    (h1 : ∀ s l j l', D1 (ix2 (at' hu s l) (at' (n := 16) rfl j l')) = if l' = l then A s j else 0)
    (h2 : ∀ s t s' l, D2 (ix2 (at' hv s t) (at' hu s' l)) = if s' = s then A t l else 0) (b : Fin 16) (s t : Fin n) (c : Fin 64) :
    kernelRows (u := u) (v := v) (w := w) d1 d2 D1 D2 X h (ix2 (at' hw b (at' hv s t)) c)
      = ∑ l : Fin 16, A t l * ∑ j : Fin 16, A s j * X (ix2 (at' rfl b (at' (n := 16) (m := 256) rfl j l)) c) := by
  refine (stack_apply (m := w) _ h hw b (at' hv s t) c).trans ?_
  rw [p2, sum_line hu (A t) _ _ s fun i j => h2 s t i j]
  refine Finset.sum_congr rfl fun l _ => congrArg (A t l * ·) ?_
  rw [p1, sum_place rfl (A s) _ _ l fun j l' => h1 s l j l']
  exact Finset.sum_congr rfl fun j _ => congrArg (A s j * ·) (plane_apply X b _ c)

/-- An entry of a table given by the bits of its entries, and an entry that is a weight or zero. -/
theorem entry {u v : Nat} (lit : Fin (⟨2, ![u, v]⟩ : Shape).numel → BitVec 32) (p : Fin u) (q : Fin v) (h : p.val * v + q.val < (⟨2, ![u, v]⟩ : Shape).numel) :
    FloatOps.ofBits (F := Ideal) .f32 (lit ((⟨2, ![u, v]⟩ : Shape).rowMajor (ix2 p q))) = FloatOps.ofBits (F := Ideal) .f32 (lit ⟨p.val * v + q.val, h⟩) :=
  congrArg _ (congrArg lit (Fin.ext (rowMajor_val2 _ v rfl)))

theorem ofBits_ite (p : Prop) [Decidable p] (x : BitVec 32) :
    FloatOps.ofBits (F := Ideal) .f32 (if p then x else 0x00000000#32) = if p then FloatOps.ofBits (F := Ideal) .f32 x else (0 : EReal) := by
  have z : FloatOps.ofBits (F := Ideal) .f32 0x00000000#32 = (0 : EReal) := by pointwise
  split_ifs
  · rfl
  · exact z

end Cert.Pool

end
-- ==== Proof.FirstRows.lean ====
/-
  The first call, which takes the rows of the first scale, the mean of every plane: the two tables, the reference's two
  contractions, and the claim of the program.
-/
module

public import proofs.«01_k».proof.Proof.Pool
public import proofs.«01_k».proof.Proof.Line
public import proofs.«01_k».proof.Proof.Update
public import proofs.«01_k».proof.Defs
public import proofs.«01_k».proof.Proof.Gen.Kernel13Ideal.Value
public import proofs.«01_k».proof.Proof.Gen.Reference13Ideal

@[expose] public section

set_option maxRecDepth 16384

noncomputable section

namespace Cert.Kernel13Ideal.Value

open Cert.Kernel13Ideal Cert.Kernel13Ideal.Gen Cert.Pool Cert.Update Cert.Codebook Idealize.ShloMosaic Idealize.ShloMosaic.TcCoe Idealize.SL.Sem

theorem index_zero : ∀ t : Fin cfg0.N, (∀ a, win0_0.index t a = 0) ∧ (∀ a, win0_1.index t a = 0) ∧ (∀ a, win0_2.index t a = 0) ∧ (∀ a, win0_3.index t a = 0) := by decide +kernel

variable (m : (ℓ : Loc nD τ sig) → Buf (Elt Ideal) ℓ) (c : Dev nD)

/-- The rows of the image, and the weight of a place in its window. -/
abbrev X : FVec Ideal S4096x64 .f32 := m ((c.tc : Thread nD τ).loc main_arg0)
abbrev weight : EReal := FloatOps.ofBits (F := Ideal) .f32 0x3D800000#32

/-- The table of the one axis, at the bits. -/
theorem table : ∀ (l : Fin 16) (p : Fin 256), lit0 ⟨l.val * 256 + p.val, by omega⟩ = if p.val % 16 = l.val then 0x3D800000#32 else 0x00000000#32 := by decide +kernel

theorem block0 (t : Fin cfg0.N) : iblk m c 0 t = X m c := funext fun j => (congrArg (V m c main_arg0) (place_whole (index_zero t).1 _ j)).trans (congrFun (V_main_arg0 m c) j)
theorem block1 (t : Fin cfg0.N) : iblk m c 1 t = V m c main_cst := funext fun j => congrArg (V m c main_cst) (place_whole (index_zero t).2.1 _ j)
theorem block2 (t : Fin cfg0.N) : iblk m c 2 t = V m c main_cst_0 := funext fun j => congrArg (V m c main_cst_0) (place_whole (index_zero t).2.2.1 _ j)

theorem table1 : V m c main_cst = (fun i => FloatOps.ofBits (F := Ideal) .f32 (lit0 (S16x256.rowMajor i)) : FVec Ideal S16x256 .f32) := by unfold V; after_results; rfl
theorem table2 : V m c main_cst_0 = (constant (F := Ideal) S1x16 .f32 0x3D800000#32 : FVec Ideal S1x16 .f32) := by unfold V; after_results

theorem zero : FloatOps.ofBits (F := Ideal) .f32 0x00000000#32 = (0 : EReal) := by pointwise

theorem table1_apply (l : Fin 16) (p : Fin 256) : V m c main_cst (ix2 l p) = if p.val % 16 = l.val then weight else (0 : EReal) := by
  rw [table1]
  have e : S16x256.rowMajor (ix2 l p) = ⟨l.val * 256 + p.val, show _ < 4096 by omega⟩ := Fin.ext (rowMajor_val2 _ 256 rfl)
  show FloatOps.ofBits (F := Ideal) .f32 (lit0 (S16x256.rowMajor (ix2 l p))) = _
  rw [e, table]
  split_ifs
  · rfl
  · exact zero

theorem plain1 : Plain dot_S16x256_S256x64_S16x64_1_0_0_1_n_n (some .fp32) := fun x y r c => by pointwise
theorem plain2 : Plain dot_S1x16_S16x64_S1x64_1_0_0_1_n_n none := fun x y r c => by pointwise

/-- What the first call leaves: the mean of every plane, first over the one axis and then over the other. -/
abbrev rows : FVec Ideal S16x64 .f32 := fun j => ∑ l : Fin 16, weight * ∑ k : Fin 16, weight * X m c (ix2 (at' rfl (j 0 : Fin 16) (at' (n := 16) (m := 256) rfl k l)) (j 1))

theorem hz : (![0, 0] : Fin 2 → Nat) = fun _ => 0 := funext fun a => by fin_cases a <;> rfl

theorem load (x : Vec Ideal S4096x64 .f32) : View.ld (Val := Elt Ideal) x r0_2 = x := View.ld_unit_zero (S := S4096x64) hz _ x

theorem out3 (t : Fin cfg0.N) : out0_3 (iblk m c 0 t) (iblk m c 1 t) (iblk m c 2 t) = rows m c := by
  rw [block0, block1, block2]
  unfold out0_3
  rw [View.canon_unit_zero hz, View.ld_unit_zero (S := S16x256) hz _ (V m c main_cst), View.ld_unit_zero (S := S1x16) hz _ (V m c main_cst_0), load]
  have k : ∀ (x : FVec Ideal S4096x64 .f32) (d1 : FVec Ideal S16x256 .f32) (d2 : FVec Ideal S1x16 .f32),
      k0_pay1 (F := Ideal) d1 d2 x (k0_pay2 d1 d2 x) (k0_pay3 d1 d2 x) (k0_pay4 d1 d2 x) (k0_pay5 d1 d2 x) (k0_pay6 d1 d2 x) (k0_pay7 d1 d2 x) (k0_pay8 d1 d2 x) (k0_pay9 d1 d2 x)
        (k0_pay10 d1 d2 x) (k0_pay11 d1 d2 x) (k0_pay12 x)
      = kernelRows dot_S16x256_S256x64_S16x64_1_0_0_1_n_n dot_S1x16_S16x64_S1x64_1_0_0_1_n_n d1 d2 x (by decide) := fun _ _ _ => rfl
  rw [k]
  funext j
  obtain ⟨b, o, rfl⟩ : ∃ (b : Fin 16) (o : Fin 64), j = ix2 b o := ⟨j 0, j 1, eq_ix2 j⟩
  have h := kernelRows_apply (n := 1) (X := X m c) (h := by decide) rfl rfl rfl (fun _ _ => weight) plain1 plain2 (D1 := V m c main_cst) (D2 := V m c main_cst_0)
    (fun s l j l' => (table1_apply m c _ _).trans (if_congr (by fin_cases s; simp only [Fin.ext_iff]; omega) rfl rfl))
    (fun s t s' l => by rw [table2, if_pos (Subsingleton.elim _ _)]; rfl) b 0 0 o
  have e : at' (m := 16) rfl b (at' (n := 1) (k := 1) (m := 1) rfl 0 0) = b := Fin.ext (show b.val * 1 + (0 * 1 + 0) = b.val by omega)
  rw [e] at h
  exact h

abbrev start : Fin cfg0.N := ⟨0, by decide⟩

theorem final3 : (dats m 0 c).arrAt 3 cfg0.N = rows m c := funext fun j =>
  (congrArg ((dats m 0 c).arrAt 3 cfg0.N) (place_whole (index_zero start).2.2.2 _ j)).symm.trans
    ((congrFun ((blocks3 m c start (flush0_3 _)).trans (flushed3 m c start)) j).trans (congrFun (out3 m c start) j))

end Cert.Kernel13Ideal.Value

namespace Cert.Reference13Ideal.Value

open Cert.Reference13Ideal Cert.Reference13Ideal.Gen Cert.Pool Idealize.ShloMosaic Idealize.ShloMosaic.StableHlo Idealize.SL.Sem

/-- The reference's two contractions are the sums over the one axis and over the other. -/
theorem means (x : FVec Ideal S4096x64 .f32) :
    shapeCast S16x64 (transpose S16x1x1x64 [0, 1, 3, 2] (Host.dotGeneral dot_S16x1x16x64_S1x16_S16x1x64x1_2_1_013_0_n_n none
      (transpose S16x1x16x64 [0, 3, 1, 2] (Host.dotGeneral dot_S16x16x16x64_S1x16_S16x16x64x1_1_1_023_0_n_n none (shapeCast S16x16x16x64 x shapeCasts_S4096x64_S16x16x16x64)
        (constant S1x16 .f32 0x3D800000#32)) transposes_S16x16x64x1_S16x1x16x64_0_3_1_2) (constant S1x16 .f32 0x3D800000#32)) transposes_S16x1x64x1_S16x1x1x64_0_1_3_2) shapeCasts_S16x1x1x64_S16x64
    = fun j => ∑ l : Fin 16, Kernel13Ideal.Value.weight * ∑ k : Fin 16, Kernel13Ideal.Value.weight * x (ix2 (at' rfl (j 0 : Fin 16) (at' (n := 16) (m := 256) rfl k l)) (j 1)) := by
  funext j
  obtain ⟨b, o, rfl⟩ : ∃ (b : Fin 16) (o : Fin 64), j = ix2 b o := ⟨j 0, j 1, eq_ix2 j⟩
  pointwise
  refine Finset.sum_congr rfl fun l _ => (mul_comm _ _).trans (congrArg _ (Finset.sum_congr rfl fun k _ => (mul_comm _ _).trans (congrArg _ ?_)))
  exact congrArg x (congrArg (ix2 · o) (Fin.ext (show b.val * 256 + k.val * 16 + l.val = b.val * 256 + (k.val * 16 + l.val) by omega)))

/-- The reference leaves the rows, and its argument. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v5) = (fun j : S16x64.Idx => ∑ l : Fin 16, Kernel13Ideal.Value.weight * ∑ k : Fin 16, Kernel13Ideal.Value.weight *
        (m ((c.tc : Thread nD τ).loc main_arg0) : FVec Ideal S4096x64 .f32) (ix2 (at' rfl (j 0 : Fin 16) (at' (n := 16) (m := 256) rfl k l)) (j 1)) : FVec Ideal S16x64 .f32)
      ∧ r.2.mem ((c.tc : Thread nD τ).loc main_arg0) = m ((c.tc : Thread nD τ).loc main_arg0) := by
  refine (θ_run defs _ _).mono (fun r h c => ⟨(h c main_v5).trans ?_, (h c main_arg0).trans ?_⟩)
    (Line.run (by decide) (by decide) defs main (fun _ => by delta main; infer_instance) m ρ) <;>
    simp only [List.cons_append, List.nil_append] <;> after_results_simp
  · exact means _

theorem frame : Cert.quiescent_Reference13Ideal := fun m ρ _ =>
  (θ_run defs _ _).mono (fun r h => ⟨fun c => (h c).2, sem_eq_zero_of_no_sems (by decide) r.2⟩) (run m ρ)

/-- The kernel and the reference leave the same rows. -/
theorem algebraic : Cert.algebraic_Kernel13Ideal_Reference13Ideal := fun m ρ m' ρ' _ hagree =>
  ⟨Kernel13Ideal.Value.rows m,
    (θ_run Kernel13Ideal.defs _ _).mono (fun _ h c => ⟨(h c).1.trans (Kernel13Ideal.Value.final3 m c), (h c).2⟩) (Kernel13Ideal.Value.run_blocks (F := Ideal) m ρ),
    (θ_run defs _ _).mono (fun _ h c => by
      obtain ⟨hr, hk⟩ := h c
      rw [hagree c] at hr
      exact ⟨hr, hk⟩) (run m' ρ')⟩

end Cert.Reference13Ideal.Value

end
-- ==== Proof.UpdateFirst.lean ====
/-
  The update of the first scale, which spreads the row of every plane over it, mixes it with its convolution and leaves the
  residual, the sum, the partial loss and the rows of the second scale: the spread, the tables of the rows, and the claim of the
  program.
-/
module

public import proofs.«01_k».proof.Proof.Pool
public import proofs.«01_k».proof.Proof.Line
public import proofs.«01_k».proof.Proof.Update
public import proofs.«01_k».proof.Defs
public import proofs.«01_k».proof.Proof.Gen.Kernel14Ideal.Value
public import proofs.«01_k».proof.Proof.Gen.Reference14Ideal

@[expose] public section

set_option maxRecDepth 16384

noncomputable section

namespace Cert.UpdateFirst

open Cert.Kernel14Ideal Cert.Kernel14Ideal.Gen Cert.Pool Cert.Codebook Idealize.ShloMosaic

/-- The reference's planes: every row of its sixteen contracted with ones on the one axis and on the other. -/
def spread (x : FVec Ideal S16x64 .f32) : FVec Ideal S16x16x16x64 .f32 :=
  transpose S16x16x16x64 [0, 1, 3, 2] (Host.dotGeneral Reference14Ideal.dot_S16x16x1x64_S16x1_S16x16x64x16_2_1_013_0_n_n none
    (transpose Reference14Ideal.S16x16x1x64 [0, 3, 1, 2] (Host.dotGeneral Reference14Ideal.dot_S16x1x1x64_S16x1_S16x1x64x16_1_1_023_0_n_n none
      (shapeCast Reference14Ideal.S16x1x1x64 x Reference14Ideal.Gen.shapeCasts_S16x64_S16x1x1x64) (constant S16x1 .f32 0x3F800000#32)) Reference14Ideal.Gen.transposes_S16x1x64x16_S16x16x1x64_0_3_1_2)
    (constant S16x1 .f32 0x3F800000#32)) Reference14Ideal.Gen.transposes_S16x16x64x16_S16x16x16x64_0_1_3_2

theorem spread_apply (x : FVec Ideal S16x64 .f32) (b j l : Fin 16) (c : Fin 64) : spread x (ix4 b j l c) = x (ix2 b c) := by
  unfold spread
  pointwise
  rw [Finset.sum_const, Finset.sum_const, Finset.card_univ, Fintype.card_fin, one_smul, one_smul]

/-- The kernel's planes: every row of its sixteen, 256 times. -/
theorem planes_apply (x : FVec Ideal S16x64 .f32) (b : Fin 16) (q : Fin 256) (c : Fin 64) : k0_pay1 (F := Ideal) x (ix2 (at' rfl b q) c) = x (ix2 b c) := by
  have k : k0_pay1 (F := Ideal) x = concatenate S4096x64 0 (List.ofFn fun b : Fin 16 => (⟨S256x64, broadcastTo S256x64 (shapeCast S1x64 (extractStridedSlice S1x64 ![b.val, 0] x
    ((by decide : ∀ b : Fin 16, S16x64.Slices ![b.val, 0] S1x64) b)) shapeCasts_S1x64_S1x64) broadcasts_S1x64_S256x64⟩ : (s : Shape) × (s.Idx → Ideal .f32)))
      (by decide : Shape.Concatenates (List.ofFn fun _ : Fin 16 => S256x64) S4096x64 0) := rfl
  rw [k]
  refine (stack_apply (n := 256) (k := 64) (m := 4096) _ (by decide : Shape.Concatenates (List.ofFn fun _ : Fin 16 => S256x64) S4096x64 0) rfl b q c).trans ?_
  pointwise

theorem planes_eq (x : FVec Ideal S16x64 .f32) : k0_pay1 (F := Ideal) x = shapeCast S4096x64 (spread x) shapeCasts_S16x16x16x64_S4096x64 := by
  funext i
  obtain ⟨r, c, rfl⟩ : ∃ (r : Fin 4096) (c : Fin 64), i = ix2 r c := ⟨i 0, i 1, eq_ix2 i⟩
  obtain ⟨b, q, rfl⟩ := exists_at (n := 16) (k := 256) rfl r
  have e : ∀ Y : FVec Ideal S16x16x16x64 .f32, shapeCast S4096x64 Y shapeCasts_S16x16x16x64_S4096x64 (ix2 (at' (m := 4096) rfl b q) c)
      = Y (ix4 b ⟨q.val / 16, by omega⟩ ⟨q.val % 16, by omega⟩ c) := fun Y => by
    pointwise
    exact congrArg Y (by congr 1 <;> (apply Fin.ext; dsimp only; omega))
  rw [planes_apply, e, spread_apply]

/-- The reference's two contractions of the planes, with any weights. -/
def means (x : FVec Ideal S4096x64 .f32) (A1 A2 : FVec Ideal Reference14Ideal.S2x16 .f32) : FVec Ideal S64x64 .f32 :=
  shapeCast S64x64 (transpose Reference14Ideal.S16x2x2x64 [0, 1, 3, 2] (Host.dotGeneral Reference14Ideal.dot_S16x2x16x64_S2x16_S16x2x64x2_2_1_013_0_n_n none
    (transpose Reference14Ideal.S16x2x16x64 [0, 3, 1, 2] (Host.dotGeneral Reference14Ideal.dot_S16x16x16x64_S2x16_S16x16x64x2_1_1_023_0_n_n none
      (shapeCast S16x16x16x64 x shapeCasts_S4096x64_S16x16x16x64) A1) Reference14Ideal.Gen.transposes_S16x16x64x2_S16x2x16x64_0_3_1_2) A2)
    Reference14Ideal.Gen.transposes_S16x2x64x2_S16x2x2x64_0_1_3_2) Reference14Ideal.Gen.shapeCasts_S16x2x2x64_S64x64

theorem means_apply (x : FVec Ideal S4096x64 .f32) (A1 A2 : FVec Ideal Reference14Ideal.S2x16 .f32) (b : Fin 16) (s t : Fin 2) (c : Fin 64) :
    means x A1 A2 (ix2 (at' (m := 64) rfl b (at' (m := 4) rfl s t)) c)
      = ∑ l : Fin 16, A2 (ix2 t l) * ∑ j : Fin 16, A1 (ix2 s j) * x (ix2 (at' rfl b (at' (n := 16) (m := 256) rfl j l)) c) := by
  have h : ∀ (r : Fin 64), means x A1 A2 (ix2 r c) = ∑ l : Fin 16, (∑ j : Fin 16, x (ix2 ⟨r.val / 4 * 256 + j.val * 16 + l.val, by omega⟩ c) * A1 (ix2 ⟨r.val / 2 % 2, by omega⟩ j)) * A2 (ix2 ⟨r.val % 2, by omega⟩ l) := by
    intro r
    unfold means
    pointwise
  rw [h]
  have e1 : (⟨(at' (m := 64) rfl b (at' (m := 4) rfl s t)).val / 2 % 2, by omega⟩ : Fin 2) = s := Fin.ext (show (b.val * 4 + (s.val * 2 + t.val)) / 2 % 2 = s.val by omega)
  have e2 : (⟨(at' (m := 64) rfl b (at' (m := 4) rfl s t)).val % 2, by omega⟩ : Fin 2) = t := Fin.ext (show (b.val * 4 + (s.val * 2 + t.val)) % 2 = t.val by omega)
  rw [e1, e2]
  refine Finset.sum_congr rfl fun l _ => (mul_comm _ _).trans (congrArg _ (Finset.sum_congr rfl fun k _ => (mul_comm _ _).trans (congrArg _ ?_)))
  exact congrArg x (congrArg (ix2 · c) (Fin.ext (show (b.val * 4 + (s.val * 2 + t.val)) / 4 * 256 + k.val * 16 + l.val = b.val * 256 + (k.val * 16 + l.val) by omega)))

/-- The tables of the second scale's rows, at the bits: the weights of the one axis and of the other. -/
theorem table1 : ∀ (s : Fin 2) (l j l' : Fin 16), lit1 ⟨(s.val * 16 + l.val) * 256 + (j.val * 16 + l'.val), by omega⟩
    = if l' = l then Reference14Ideal.lit0 ⟨s.val * 16 + j.val, by omega⟩ else 0x00000000#32 := by decide +kernel

theorem table2 : ∀ (s t s' : Fin 2) (l : Fin 16), lit2 ⟨(s.val * 2 + t.val) * 32 + (s'.val * 16 + l.val), by omega⟩
    = if s' = s then Reference14Ideal.lit1 ⟨t.val * 16 + l.val, by omega⟩ else 0x00000000#32 := by decide +kernel

theorem plain1 : Plain dot_S32x256_S256x64_S32x64_1_0_0_1_n_n (some .fp32) := fun x y r c => by pointwise
theorem plain2 : Plain dot_S4x32_S32x64_S4x64_1_0_0_1_n_n none := fun x y r c => by pointwise

/-- The tables and the weights as values. -/
abbrev D1 : FVec Ideal S32x256 .f32 := fun i => FloatOps.ofBits (F := Ideal) .f32 (lit1 (S32x256.rowMajor i))
abbrev D2 : FVec Ideal S4x32 .f32 := fun i => FloatOps.ofBits (F := Ideal) .f32 (lit2 (S4x32.rowMajor i))
abbrev A1 : FVec Ideal Reference14Ideal.S2x16 .f32 := fun i => FloatOps.ofBits (F := Ideal) .f32 (Reference14Ideal.lit0 (Reference14Ideal.S2x16.rowMajor i))
abbrev A2 : FVec Ideal Reference14Ideal.S2x16 .f32 := fun i => FloatOps.ofBits (F := Ideal) .f32 (Reference14Ideal.lit1 (Reference14Ideal.S2x16.rowMajor i))

/-- The weights of the two axes are the same. -/
theorem weights_same : A1 = A2 := by
  have h : ∀ i, Reference14Ideal.lit0 i = Reference14Ideal.lit1 i := by decide +kernel
  funext i
  exact congrArg (FloatOps.ofBits (F := Ideal) .f32) (h _)

theorem rows_eq (x : FVec Ideal S4096x64 .f32) :
    kernelRows dot_S32x256_S256x64_S32x64_1_0_0_1_n_n dot_S4x32_S32x64_S4x64_1_0_0_1_n_n D1 D2 x (w := 64) (by decide) = means x A1 A2 := by
  funext i
  obtain ⟨r, c, rfl⟩ : ∃ (r : Fin 64) (c : Fin 64), i = ix2 r c := ⟨i 0, i 1, eq_ix2 i⟩
  obtain ⟨b, q, rfl⟩ := exists_at (n := 16) (k := 4) rfl r
  obtain ⟨s, t, rfl⟩ := exists_at (n := 2) (k := 2) rfl q
  refine (kernelRows_apply (n := 2) rfl rfl rfl (fun s j => A1 (ix2 s j)) plain1 plain2 (fun s l j l' => ?_) (fun s t s' l => ?_) b s t c).trans ?_
  · exact (entry (u := 32) (v := 256) lit1 _ _ _).trans ((congrArg (FloatOps.ofBits (F := Ideal) .f32) (table1 s l j l')).trans ((ofBits_ite _ _).trans (if_congr Iff.rfl (entry (u := 2) (v := 16) Reference14Ideal.lit0 s j _).symm rfl)))
  · rw [weights_same]
    exact (entry (u := 4) (v := 32) lit2 _ _ _).trans ((congrArg (FloatOps.ofBits (F := Ideal) .f32) (table2 s t s' l)).trans ((ofBits_ite _ _).trans (if_congr Iff.rfl (entry (u := 2) (v := 16) Reference14Ideal.lit1 t l _).symm rfl)))
  · rw [means_apply, ← weights_same]

/-- The rows mixed with the first convolution of their planes, and the rows of the second scale. -/
abbrev new (x : FVec Ideal S16x64 .f32) (W : FVec Ideal S4x64x64x3x3 .f32) (B : FVec Ideal S4x64 .f32) : FVec Ideal S4096x64 .f32 :=
  Update.mixed (shapeCast S4096x64 (spread x) shapeCasts_S16x16x16x64_S4096x64) (spread x) (Update.weights 0 W) (Update.bias 0 B)
abbrev rows (x : FVec Ideal S4096x64 .f32) : FVec Ideal S64x64 .f32 := means x A1 A2

end Cert.UpdateFirst

namespace Cert.Kernel14Ideal.Value

open Cert.Kernel14Ideal Cert.Kernel14Ideal.Gen Cert.Update Cert.UpdateFirst Cert.Pool Idealize.ShloMosaic Idealize.ShloMosaic.TcCoe Idealize.SL.Sem

variable (m : (ℓ : Loc nD τ sig) → Buf (Elt Ideal) ℓ) (c : Dev nD)

/-- The rows, the weights, the bias, the image, the residual and the sum so far. -/
abbrev X : FVec Ideal S16x64 .f32 := m ((c.tc : Thread nD τ).loc main_arg0)
abbrev W : FVec Ideal S4x64x64x3x3 .f32 := m ((c.tc : Thread nD τ).loc main_arg1)
abbrev B : FVec Ideal S4x64 .f32 := m ((c.tc : Thread nD τ).loc main_arg2)
abbrev f0 : FVec Ideal S4096x64 .f32 := m ((c.tc : Thread nD τ).loc main_arg3)
abbrev fr : FVec Ideal S4096x64 .f32 := m ((c.tc : Thread nD τ).loc main_arg4)
abbrev fh : FVec Ideal S4096x64 .f32 := m ((c.tc : Thread nD τ).loc main_arg5)

/-- Every window's block is its whole array. -/
theorem index0 : ∀ (t : Fin cfg0.N) a, win0_0.index t a = 0 := by decide +kernel
theorem index1 : ∀ (t : Fin cfg0.N) a, win0_1.index t a = 0 := by decide +kernel
theorem index2 : ∀ (t : Fin cfg0.N) a, win0_2.index t a = 0 := by decide +kernel
theorem index3 : ∀ (t : Fin cfg0.N) a, win0_3.index t a = 0 := by decide +kernel
theorem index4 : ∀ (t : Fin cfg0.N) a, win0_4.index t a = 0 := by decide +kernel
theorem index5 : ∀ (t : Fin cfg0.N) a, win0_5.index t a = 0 := by decide +kernel
theorem index8 : ∀ (t : Fin cfg0.N) a, win0_8.index t a = 0 := by decide +kernel
theorem index9 : ∀ (t : Fin cfg0.N) a, win0_9.index t a = 0 := by decide +kernel
theorem index10 : ∀ (t : Fin cfg0.N) a, win0_10.index t a = 0 := by decide +kernel
theorem index11 : ∀ (t : Fin cfg0.N) a, win0_11.index t a = 0 := by decide +kernel
theorem index12 : ∀ (t : Fin cfg0.N) a, win0_12.index t a = 0 := by decide +kernel
theorem index13 : ∀ (t : Fin cfg0.N) a, win0_13.index t a = 0 := by decide +kernel

theorem block0 (t : Fin cfg0.N) : iblk m c 0 t = X m c := funext fun j => (congrArg (V m c main_arg0) (place_whole (index0 t) _ j)).trans (congrFun (V_main_arg0 m c) j)
theorem block1 (t : Fin cfg0.N) : iblk m c 1 t = V m c main_v2 := funext fun j => congrArg (V m c main_v2) (place_whole (index1 t) _ j)
theorem block2 (t : Fin cfg0.N) : iblk m c 2 t = V m c main_v5 := funext fun j => congrArg (V m c main_v5) (place_whole (index2 t) _ j)
theorem block3 (t : Fin cfg0.N) : iblk m c 3 t = f0 m c := funext fun j => (congrArg (V m c main_arg3) (place_whole (index3 t) _ j)).trans (congrFun (V_main_arg3 m c) j)
theorem block4 (t : Fin cfg0.N) : iblk m c 4 t = fr m c := funext fun j => (congrArg (V m c main_arg4) (place_whole (index4 t) _ j)).trans (congrFun (V_main_arg4 m c) j)
theorem block5 (t : Fin cfg0.N) : iblk m c 5 t = fh m c := funext fun j => (congrArg (V m c main_arg5) (place_whole (index5 t) _ j)).trans (congrFun (V_main_arg5 m c) j)
theorem block8 (t : Fin cfg0.N) : iblk m c 8 t = D1 :=
  (funext fun j => congrArg (V m c main_cst_1) (place_whole (index8 t) _ j)).trans (b := V m c main_cst_1) (by unfold V; after_results; rfl)
theorem block9 (t : Fin cfg0.N) : iblk m c 9 t = D2 :=
  (funext fun j => congrArg (V m c main_cst_2) (place_whole (index9 t) _ j)).trans (b := V m c main_cst_2) (by unfold V; after_results; rfl)

theorem weights_eq (i j : Fin 3) (k o : Fin 64) : V m c main_v2 (ix4 i j k o) = weights 0 (W m c) (ix4 o k i j) :=
  (congrFun (by unfold V; after_results; rfl) _).trans
    (weights_apply 0 (W m c) transposes_S4x64x64x3x3_S4x3x3x64x64_0_3_4_2_1 slices_S4x3x3x64x64_S1x3x3x64x64_0_0_0_0_0 shapeCasts_S1x3x3x64x64_S3x3x64x64 i j k o)

theorem bias_eq (o : Fin 64) : V m c main_v5 (ix2 0 o) = bias 0 (B m c) (ix1 o) :=
  (congrFun (by unfold V; after_results; rfl) _).trans (bias_apply 0 (B m c) slices_S4x64_S1x64_0_0 shapeCasts_S1x64_S64 bcast_S64_S1x64_1 o)

/-- What the update leaves: the residual, the sum, the partial loss and the rows of the second scale. -/
abbrev rest : FVec Ideal S4096x64 .f32 := subf (fr m c) (new (X m c) (W m c) (B m c))
abbrev sum : FVec Ideal S4096x64 .f32 := addf (fh m c) (new (X m c) (W m c) (B m c))
abbrev loss : FVec Ideal S1x1 .f32 := partialLoss (subf (sum m c) (f0 m c))
abbrev next : FVec Ideal S64x64 .f32 := rows (rest m c)

theorem hz : (![0, 0] : Fin 2 → Nat) = fun _ => 0 := funext fun a => by fin_cases a <;> rfl

theorem load (x : Vec Ideal S4096x64 .f32) : View.ld (Val := Elt Ideal) x r0_11 = x := View.ld_unit_zero (S := S4096x64) hz _ x

/-- The mixture the body takes, whatever the tables it does not read. -/
theorem new_eq (x3 x4 x5 : Vec Ideal S4096x64 .f32) (x6 : Vec Ideal S16x1 .f32) (x7 : Vec Ideal S256x16 .f32) (x8 : Vec Ideal S32x256 .f32) (x9 : Vec Ideal S4x32 .f32) :
    k0_pay16 (F := Ideal) (X m c) (V m c main_v2) (V m c main_v5) x3 x4 x5 x6 x7 x8 x9 = new (X m c) (W m c) (B m c) := by
  have hx : ∀ x : Vec Ideal S16x64 .f32, View.ld (Val := Elt Ideal) x r0_0 = x := View.ld_unit_zero (S := S16x64) hz _
  have hb : ∀ x : Vec Ideal S1x64 .f32, View.ld (Val := Elt Ideal) x r0_10 = x := View.ld_unit_zero (S := S1x64) hz _
  unfold k0_pay16 k0_pay15
  rw [hx, hb]
  refine Eq.trans (b := kernelMixed (k0_pay1 (F := Ideal) (X m c)) (V m c main_v2) (V m c main_v5)) rfl ?_
  rw [planes_eq]
  exact kernelMixed_eq _ (shapeCast_shapeCast _ _ _) (weights_eq m c) (bias_eq m c)

theorem out10 (t : Fin cfg0.N) : out0_10 (iblk m c 0 t) (iblk m c 1 t) (iblk m c 2 t) (iblk m c 3 t) (iblk m c 4 t) (iblk m c 5 t) (iblk m c 6 t) (iblk m c 7 t) (iblk m c 8 t) (iblk m c 9 t) = rest m c := by
  rw [block0, block1, block2, block3, block4, block5]
  unfold out0_10
  rw [View.canon_unit_zero hz, load, new_eq]
  rfl

theorem out11 (t : Fin cfg0.N) : out0_11 (iblk m c 0 t) (iblk m c 1 t) (iblk m c 2 t) (iblk m c 3 t) (iblk m c 4 t) (iblk m c 5 t) (iblk m c 6 t) (iblk m c 7 t) (iblk m c 8 t) (iblk m c 9 t) = sum m c := by
  rw [block0, block1, block2, block3, block4, block5]
  unfold out0_11
  rw [View.canon_unit_zero hz, load, new_eq]
  rfl

theorem out12 (t : Fin cfg0.N) : out0_12 (iblk m c 0 t) (iblk m c 1 t) (iblk m c 2 t) (iblk m c 3 t) (iblk m c 4 t) (iblk m c 5 t) (iblk m c 6 t) (iblk m c 7 t) (iblk m c 8 t) (iblk m c 9 t) = loss m c := by
  rw [block0, block1, block2, block3, block4, block5]
  unfold out0_12
  rw [View.canon_unit_zero hz, load, load, new_eq]
  exact Eq.trans (b := kernelLoss (subf (sum m c) (f0 m c))) rfl (kernelLoss_eq _)

theorem out13 (t : Fin cfg0.N) : out0_13 (iblk m c 0 t) (iblk m c 1 t) (iblk m c 2 t) (iblk m c 3 t) (iblk m c 4 t) (iblk m c 5 t) (iblk m c 6 t) (iblk m c 7 t) (iblk m c 8 t) (iblk m c 9 t) = next m c := by
  rw [block0, block1, block2, block3, block4, block5, block8, block9]
  have h8 : ∀ x : Vec Ideal S32x256 .f32, View.ld (Val := Elt Ideal) x r0_13 = x := View.ld_unit_zero (S := S32x256) hz _
  have h9 : ∀ x : Vec Ideal S4x32 .f32, View.ld (Val := Elt Ideal) x r0_14 = x := View.ld_unit_zero (S := S4x32) hz _
  unfold out0_13
  rw [View.canon_unit_zero hz, load, h8, h9, new_eq]
  have k : ∀ (x y : FVec Ideal S4096x64 .f32) (d1 : FVec Ideal S32x256 .f32) (d2 : FVec Ideal S4x32 .f32),
      k0_pay14 (F := Ideal) (k0_pay7 x y) d1 d2 (k0_pay9 x y d1 d2) (k0_pay10 x y d1 d2) (k0_pay11 x y d1 d2) (k0_pay12 x y d1 d2) (k0_pay13 x y d1) (constant S4x64 .f32 0x00000000#32)
      = kernelRows dot_S32x256_S256x64_S32x64_1_0_0_1_n_n dot_S4x32_S32x64_S4x64_1_0_0_1_n_n d1 d2 (subf y x) (w := 64) (by decide) := fun _ _ _ _ => rfl
  rw [k]
  exact rows_eq _

abbrev start : Fin cfg0.N := ⟨0, by decide⟩

theorem final10 : (dats m 0 c).arrAt 10 cfg0.N = rest m c := funext fun j =>
  (congrArg ((dats m 0 c).arrAt 10 cfg0.N) (place_whole (index10 start) _ j)).symm.trans
    ((congrFun ((blocks10 m c start (flush0_10 _)).trans (flushed10 m c start)) j).trans (congrFun (out10 m c start) j))

theorem final11 : (dats m 0 c).arrAt 11 cfg0.N = sum m c := funext fun j =>
  (congrArg ((dats m 0 c).arrAt 11 cfg0.N) (place_whole (index11 start) _ j)).symm.trans
    ((congrFun ((blocks11 m c start (flush0_11 _)).trans (flushed11 m c start)) j).trans (congrFun (out11 m c start) j))

theorem final12 : (dats m 0 c).arrAt 12 cfg0.N = loss m c := funext fun j =>
  (congrArg ((dats m 0 c).arrAt 12 cfg0.N) (place_whole (index12 start) _ j)).symm.trans
    ((congrFun ((blocks12 m c start (flush0_12 _)).trans (flushed12 m c start)) j).trans (congrFun (out12 m c start) j))

theorem final13 : (dats m 0 c).arrAt 13 cfg0.N = next m c := funext fun j =>
  (congrArg ((dats m 0 c).arrAt 13 cfg0.N) (place_whole (index13 start) _ j)).symm.trans
    ((congrFun ((blocks13 m c start (flush0_13 _)).trans (flushed13 m c start)) j).trans (congrFun (out13 m c start) j))

end Cert.Kernel14Ideal.Value

namespace Cert.Reference14Ideal.Value

open Cert.Reference14Ideal Cert.Reference14Ideal.Gen Cert.Update Cert.UpdateFirst Idealize.ShloMosaic Idealize.ShloMosaic.StableHlo Idealize.SL.Sem

set_option synthInstance.maxHeartbeats 1000000 in -- a long host function
set_option synthInstance.maxSize 100000 in
set_option maxHeartbeats 4000000 in
/-- The reference leaves the residual, the sum, the partial loss and the rows of the second scale, and its arguments. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v65) = (subf (F := Ideal) (φ := .f32) (m ((c.tc : Thread nD τ).loc main_arg4)) (UpdateFirst.new (m ((c.tc : Thread nD τ).loc main_arg0)) (m ((c.tc : Thread nD τ).loc main_arg1)) (m ((c.tc : Thread nD τ).loc main_arg2))) : FVec Ideal S4096x64 .f32)
      ∧ r.2.mem ((c.tc : Thread nD τ).loc main_v64) = (addf (F := Ideal) (φ := .f32) (m ((c.tc : Thread nD τ).loc main_arg5)) (UpdateFirst.new (m ((c.tc : Thread nD τ).loc main_arg0)) (m ((c.tc : Thread nD τ).loc main_arg1)) (m ((c.tc : Thread nD τ).loc main_arg2))) : FVec Ideal S4096x64 .f32)
      ∧ r.2.mem ((c.tc : Thread nD τ).loc main_v76) = partialLoss (subf (addf (m ((c.tc : Thread nD τ).loc main_arg5)) (UpdateFirst.new (m ((c.tc : Thread nD τ).loc main_arg0)) (m ((c.tc : Thread nD τ).loc main_arg1)) (m ((c.tc : Thread nD τ).loc main_arg2)))) (m ((c.tc : Thread nD τ).loc main_arg3)))
      ∧ r.2.mem ((c.tc : Thread nD τ).loc main_v82) = UpdateFirst.rows (subf (m ((c.tc : Thread nD τ).loc main_arg4)) (UpdateFirst.new (m ((c.tc : Thread nD τ).loc main_arg0)) (m ((c.tc : Thread nD τ).loc main_arg1)) (m ((c.tc : Thread nD τ).loc main_arg2))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c main_v65).trans ?_, (h c main_v64).trans ?_, (h c main_v76).trans ?_, (h c main_v82).trans ?_, (h c main_arg0).trans ?_, (h c main_arg1).trans ?_,
      (h c main_arg2).trans ?_, (h c main_arg3).trans ?_, (h c main_arg4).trans ?_, (h c main_arg5).trans ?_⟩)
    (Line.run (by decide) (by decide) defs main (fun _ => by delta main main_part0 main_part1 fn_pad.body; infer_instance) m ρ) <;>
    simp only [List.cons_append, List.nil_append] <;> after_results_simp
  · rfl
  · rfl
  · rfl
  · rfl

theorem frame : Cert.quiescent_Reference14Ideal := fun m ρ _ =>
  (θ_run defs _ _).mono (fun r h => ⟨fun c => (h c).2.2.2.2, sem_eq_zero_of_no_sems (by decide) r.2⟩) (run m ρ)

/-- The kernel and the reference leave the same residual, the same sum, the same partial loss and the same rows. -/
theorem algebraic : Cert.algebraic_Kernel14Ideal_Reference14Ideal := fun m ρ m' ρ' _ hagree =>
  ⟨Kernel14Ideal.Value.rest m, Kernel14Ideal.Value.sum m, Kernel14Ideal.Value.loss m, Kernel14Ideal.Value.next m,
    (θ_run Kernel14Ideal.defs _ _).mono (fun _ h c => ⟨(h c).1.trans (Kernel14Ideal.Value.final10 m c), (h c).2.1.trans (Kernel14Ideal.Value.final11 m c),
      (h c).2.2.1.trans (Kernel14Ideal.Value.final12 m c), (h c).2.2.2.1.trans (Kernel14Ideal.Value.final13 m c), (h c).2.2.2.2⟩) (Kernel14Ideal.Value.run_blocks (F := Ideal) m ρ),
    (θ_run defs _ _).mono (fun _ h c => by
      obtain ⟨h0, h1, h2, h3, h4, h5⟩ := hagree c
      obtain ⟨hr, hi, hl, hn, hk⟩ := h c
      rw [h0, h1, h2, h4] at hr hn
      rw [h0, h1, h2, h5] at hi
      rw [h0, h1, h2, h3, h5] at hl
      exact ⟨hr, hi, hl, hn, hk⟩) (run m' ρ')⟩

end Cert.Reference14Ideal.Value

end
-- ==== Proof.lean ====
/-
  The claims: the first call, each of the ten searches, the updates of the first and of the last scale and the last call, against their references.
-/
module

public import proofs.«01_k».proof.Defs
public import proofs.«01_k».proof.Proof.Gen.Kernel.Frame
public import proofs.«01_k».proof.Proof.Gen.Kernel2.Frame
public import proofs.«01_k».proof.Proof.Gen.Kernel3.Frame
public import proofs.«01_k».proof.Proof.Gen.Kernel4.Frame
public import proofs.«01_k».proof.Proof.Gen.Kernel5.Frame
public import proofs.«01_k».proof.Proof.Gen.Kernel6.Frame
public import proofs.«01_k».proof.Proof.Gen.Kernel7.Frame
public import proofs.«01_k».proof.Proof.Gen.Kernel8.Frame
public import proofs.«01_k».proof.Proof.Gen.Kernel9.Frame
public import proofs.«01_k».proof.Proof.Gen.Kernel10.Frame
public import proofs.«01_k».proof.Proof.Gen.Kernel11.Frame
public import proofs.«01_k».proof.Proof.Gen.Kernel12.Frame
public import proofs.«01_k».proof.Proof.Search1
public import proofs.«01_k».proof.Proof.Search2
public import proofs.«01_k».proof.Proof.Search3
public import proofs.«01_k».proof.Proof.Search4
public import proofs.«01_k».proof.Proof.Search5
public import proofs.«01_k».proof.Proof.Search6
public import proofs.«01_k».proof.Proof.Search7
public import proofs.«01_k».proof.Proof.Search8
public import proofs.«01_k».proof.Proof.Search9
public import proofs.«01_k».proof.Proof.Search10
public import proofs.«01_k».proof.Proof.Update
public import proofs.«01_k».proof.Proof.Last
public import proofs.«01_k».proof.Proof.Gen.Kernel13.Frame
public import proofs.«01_k».proof.Proof.FirstRows
public import proofs.«01_k».proof.Proof.Gen.Kernel14.Frame
public import proofs.«01_k».proof.Proof.UpdateFirst

@[expose] public section

noncomputable section

namespace Cert.Proof

open Idealize.ShloMosaic Idealize.SL.Sem

theorem claim : Cert.Claim := ⟨
  Cert.Kernel.Gen.facts, Cert.KernelIdeal.Gen.facts, Cert.ReferenceIdeal.Gen.facts,
  Cert.Kernel2.Gen.facts, Cert.Kernel2Ideal.Gen.facts, Cert.Reference2Ideal.Gen.facts,
  Cert.Kernel3.Gen.facts, Cert.Kernel3Ideal.Gen.facts, Cert.Reference3Ideal.Gen.facts,
  Cert.Kernel4.Gen.facts, Cert.Kernel4Ideal.Gen.facts, Cert.Reference4Ideal.Gen.facts,
  Cert.Kernel5.Gen.facts, Cert.Kernel5Ideal.Gen.facts, Cert.Reference5Ideal.Gen.facts,
  Cert.Kernel6.Gen.facts, Cert.Kernel6Ideal.Gen.facts, Cert.Reference6Ideal.Gen.facts,
  Cert.Kernel7.Gen.facts, Cert.Kernel7Ideal.Gen.facts, Cert.Reference7Ideal.Gen.facts,
  Cert.Kernel8.Gen.facts, Cert.Kernel8Ideal.Gen.facts, Cert.Reference8Ideal.Gen.facts,
  Cert.Kernel9.Gen.facts, Cert.Kernel9Ideal.Gen.facts, Cert.Reference9Ideal.Gen.facts,
  Cert.Kernel10.Gen.facts, Cert.Kernel10Ideal.Gen.facts, Cert.Reference10Ideal.Gen.facts,
  Cert.Kernel11.Gen.facts, Cert.Kernel11Ideal.Gen.facts, Cert.Reference11Ideal.Gen.facts,
  Cert.Kernel12.Gen.facts, Cert.Kernel12Ideal.Gen.facts, Cert.Reference12Ideal.Gen.facts,
  Cert.Kernel13.Gen.facts, Cert.Kernel13Ideal.Gen.facts, Cert.Reference13Ideal.Gen.facts,
  Cert.Kernel14.Gen.facts, Cert.Kernel14Ideal.Gen.facts, Cert.Reference14Ideal.Gen.facts,
  fun m ρ _ => Cert.Kernel.Gen.frame m ρ, fun m ρ _ => Cert.KernelIdeal.Gen.frame m ρ, Cert.ReferenceIdeal.Value.frame,
  fun m ρ _ => Cert.Kernel2.Gen.frame m ρ, fun m ρ _ => Cert.Kernel2Ideal.Gen.frame m ρ, Cert.Reference2Ideal.Value.frame,
  fun m ρ _ => Cert.Kernel3.Gen.frame m ρ, fun m ρ _ => Cert.Kernel3Ideal.Gen.frame m ρ, Cert.Reference3Ideal.Value.frame,
  fun m ρ _ => Cert.Kernel4.Gen.frame m ρ, fun m ρ _ => Cert.Kernel4Ideal.Gen.frame m ρ, Cert.Reference4Ideal.Value.frame,
  fun m ρ _ => Cert.Kernel5.Gen.frame m ρ, fun m ρ _ => Cert.Kernel5Ideal.Gen.frame m ρ, Cert.Reference5Ideal.Value.frame,
  fun m ρ _ => Cert.Kernel6.Gen.frame m ρ, fun m ρ _ => Cert.Kernel6Ideal.Gen.frame m ρ, Cert.Reference6Ideal.Value.frame,
  fun m ρ _ => Cert.Kernel7.Gen.frame m ρ, fun m ρ _ => Cert.Kernel7Ideal.Gen.frame m ρ, Cert.Reference7Ideal.Value.frame,
  fun m ρ _ => Cert.Kernel8.Gen.frame m ρ, fun m ρ _ => Cert.Kernel8Ideal.Gen.frame m ρ, Cert.Reference8Ideal.Value.frame,
  fun m ρ _ => Cert.Kernel9.Gen.frame m ρ, fun m ρ _ => Cert.Kernel9Ideal.Gen.frame m ρ, Cert.Reference9Ideal.Value.frame,
  fun m ρ _ => Cert.Kernel10.Gen.frame m ρ, fun m ρ _ => Cert.Kernel10Ideal.Gen.frame m ρ, Cert.Reference10Ideal.Value.frame,
  fun m ρ _ => Cert.Kernel11.Gen.frame m ρ, fun m ρ _ => Cert.Kernel11Ideal.Gen.frame m ρ, Cert.Reference11Ideal.Value.frame,
  fun m ρ _ => Cert.Kernel12.Gen.frame m ρ, fun m ρ _ => Cert.Kernel12Ideal.Gen.frame m ρ, Cert.Reference12Ideal.Value.frame,
  fun m ρ _ => Cert.Kernel13.Gen.frame m ρ, fun m ρ _ => Cert.Kernel13Ideal.Gen.frame m ρ, Cert.Reference13Ideal.Value.frame,
  fun m ρ _ => Cert.Kernel14.Gen.frame m ρ, fun m ρ _ => Cert.Kernel14Ideal.Gen.frame m ρ, Cert.Reference14Ideal.Value.frame,
  trivial, Cert.ReferenceIdeal.Value.algebraic,
  trivial, Cert.Reference2Ideal.Value.algebraic,
  trivial, Cert.Reference3Ideal.Value.algebraic,
  trivial, Cert.Reference4Ideal.Value.algebraic,
  trivial, Cert.Reference5Ideal.Value.algebraic,
  trivial, Cert.Reference6Ideal.Value.algebraic,
  trivial, Cert.Reference7Ideal.Value.algebraic,
  trivial, Cert.Reference8Ideal.Value.algebraic,
  trivial, Cert.Reference9Ideal.Value.algebraic,
  trivial, Cert.Reference10Ideal.Value.algebraic,
  trivial, Cert.Reference11Ideal.Value.algebraic,
  trivial, Cert.Reference12Ideal.Value.algebraic,
  trivial, Cert.Reference13Ideal.Value.algebraic,
  trivial, Cert.Reference14Ideal.Value.algebraic⟩

end Cert.Proof

end
